-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S2x512x768 : Shape := ⟨3, ![2, 512, 768]⟩
abbrev S768x16 : Shape := ⟨2, ![768, 16]⟩
abbrev S16 : Shape := ⟨1, ![16]⟩
abbrev S16x768x64 : Shape := ⟨3, ![16, 768, 64]⟩
abbrev S16x64x768 : Shape := ⟨3, ![16, 64, 768]⟩
abbrev S_ : Shape := ⟨0, ![]⟩

class Facts : Prop where
  bcast_S_S2x512x768 : S_.BroadcastsInDim S2x512x768 (![] : Fin 0 → Fin S2x512x768.rank)
  bcast_S_S16x768x64 : S_.BroadcastsInDim S16x768x64 (![] : Fin 0 → Fin S16x768x64.rank)
  bcast_S_S16x64x768 : S_.BroadcastsInDim S16x64x768 (![] : Fin 0 → Fin S16x64x768.rank)

variable [Facts]

def fn {F : FTy → Type} [FloatOps F] (main_arg0 : FVec F S2x512x768 .f32) (main_arg1 : FVec F S768x16 .f32) (main_arg2 : FVec F S16 .f32) (main_arg3 : FVec F S16x768x64 .f32) (main_arg4 : FVec F S16x768x64 .f32) (main_arg5 : FVec F S16x768x64 .f32) (main_arg6 : FVec F S16x64x768 .f32) : IVec S2x512x768 1 × IVec S16x768x64 1 × IVec S16x768x64 1 × IVec S16x768x64 1 × IVec S16x64x768 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S16x768x64 .f32 := Host.absf main_arg3
  let main_cst_0 : FVec F S_ .f32 := constant S_ .f32 0x7F800000#32
  let main_v4 : FVec F S16x768x64 .f32 := broadcastInDim S16x768x64 ![] bcast_S_S16x768x64 main_cst_0
  let main_v5 : IVec S16x768x64 1 := cmpf .olt main_v3 main_v4
  let main_v6 : FVec F S16x768x64 .f32 := Host.absf main_arg4
  let main_cst_1 : FVec F S_ .f32 := constant S_ .f32 0x7F800000#32
  let main_v7 : FVec F S16x768x64 .f32 := broadcastInDim S16x768x64 ![] bcast_S_S16x768x64 main_cst_1
  let main_v8 : IVec S16x768x64 1 := cmpf .olt main_v6 main_v7
  let main_v9 : FVec F S16x768x64 .f32 := Host.absf main_arg5
  let main_cst_2 : FVec F S_ .f32 := constant S_ .f32 0x7F800000#32
  let main_v10 : FVec F S16x768x64 .f32 := broadcastInDim S16x768x64 ![] bcast_S_S16x768x64 main_cst_2
  let main_v11 : IVec S16x768x64 1 := cmpf .olt main_v9 main_v10
  let main_v12 : FVec F S16x64x768 .f32 := Host.absf main_arg6
  let main_cst_3 : FVec F S_ .f32 := constant S_ .f32 0x7F800000#32
  let main_v13 : FVec F S16x64x768 .f32 := broadcastInDim S16x64x768 ![] bcast_S_S16x64x768 main_cst_3
  let main_v14 : IVec S16x64x768 1 := cmpf .olt main_v12 main_v13
  (main_v2, main_v5, main_v8, main_v11, main_v14)
-- ==== Kernel.lean ====
abbrev S2x512x768 : Shape := ⟨3, ![2, 512, 768]⟩
abbrev S768x16 : Shape := ⟨2, ![768, 16]⟩
abbrev S16 : Shape := ⟨1, ![16]⟩
abbrev S16x768x64 : Shape := ⟨3, ![16, 768, 64]⟩
abbrev S16x64x768 : Shape := ⟨3, ![16, 64, 768]⟩
abbrev S1024x768 : Shape := ⟨2, ![1024, 768]⟩
abbrev S3072x768 : Shape := ⟨2, ![3072, 768]⟩
abbrev S16x768 : Shape := ⟨2, ![16, 768]⟩
abbrev S16x1 : Shape := ⟨2, ![16, 1]⟩
abbrev S1024 : Shape := ⟨1, ![1024]⟩
abbrev S1024x1 : Shape := ⟨2, ![1024, 1]⟩
abbrev S16x1024 : Shape := ⟨2, ![16, 1024]⟩
abbrev S1x1024 : Shape := ⟨2, ![1, 1024]⟩
abbrev S3072x1024 : Shape := ⟨2, ![3072, 1024]⟩
abbrev S64x1024 : Shape := ⟨2, ![64, 1024]⟩
abbrev S512x512 : Shape := ⟨2, ![512, 512]⟩
abbrev S64x512 : Shape := ⟨2, ![64, 512]⟩
abbrev S512 : Shape := ⟨1, ![512]⟩
abbrev S512x1 : Shape := ⟨2, ![512, 1]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S2x512x768, .f32⟩
  | .hbm, ⟨1, _⟩ => ⟨S768x16, .f32⟩
  | .hbm, ⟨2, _⟩ => ⟨S16, .f32⟩
  | .hbm, ⟨3, _⟩ => ⟨S16x768x64, .f32⟩
  | .hbm, ⟨4, _⟩ => ⟨S16x768x64, .f32⟩
  | .hbm, ⟨5, _⟩ => ⟨S16x768x64, .f32⟩
  | .hbm, ⟨6, _⟩ => ⟨S16x64x768, .f32⟩
  | .hbm, ⟨7, _⟩ => ⟨S1024x768, .f32⟩
  | .hbm, ⟨8, _⟩ => ⟨S16x64x768, .f32⟩
  | .hbm, ⟨9, _⟩ => ⟨S1024x768, .f32⟩
  | .hbm, ⟨10, _⟩ => ⟨S16x64x768, .f32⟩
  | .hbm, ⟨11, _⟩ => ⟨S1024x768, .f32⟩
  | .hbm, ⟨12, _⟩ => ⟨S16x64x768, .f32⟩
  | .hbm, ⟨13, _⟩ => ⟨S1024x768, .f32⟩
  | .hbm, ⟨14, _⟩ => ⟨S3072x768, .f32⟩
  | .hbm, ⟨15, _⟩ => ⟨S3072x768, .bf16⟩
  | .hbm, ⟨16, _⟩ => ⟨S1024x768, .f32⟩
  | .hbm, ⟨17, _⟩ => ⟨S1024x768, .bf16⟩
  | .hbm, ⟨18, _⟩ => ⟨S16x768, .f32⟩
  | .hbm, ⟨19, _⟩ => ⟨S16x1, .f32⟩
  | .hbm, ⟨20, _⟩ => ⟨S1024x768, .f32⟩
  | .hbm, ⟨21, _⟩ => ⟨S2x512x768, .f32⟩
  | .local _ .vmem, ⟨0, _⟩ => ⟨S1024x768, .f32⟩
  | .local _ .vmem, ⟨1, _⟩ => ⟨S16x768, .f32⟩
  | .local _ .vmem, ⟨2, _⟩ => ⟨S16x1, .f32⟩
  | .local _ .vmem, ⟨3, _⟩ => ⟨S3072x768, .bf16⟩
  | .local _ .vmem, ⟨4, _⟩ => ⟨S1024x768, .bf16⟩
  | .local _ .vmem, ⟨5, _⟩ => ⟨S1024x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16 : Shape := ⟨2, ![768, 16]⟩
abbrev S16 : Shape := ⟨1, ![16]⟩
abbrev S16x768x64 : Shape := ⟨3, ![16, 768, 64]⟩
abbrev S16x64x768 : Shape := ⟨3, ![16, 64, 768]⟩
abbrev S1024x768 : Shape := ⟨2, ![1024, 768]⟩
abbrev S_ : Shape := ⟨0, ![]⟩
abbrev S1024 : Shape := ⟨1, ![1024]⟩
abbrev S1024x1 : Shape := ⟨2, ![1024, 1]⟩
abbrev S1x16 : Shape := ⟨2, ![1, 16]⟩
abbrev S1024x16 : Shape := ⟨2, ![1024, 16]⟩
abbrev S1024x2 : Shape := ⟨2, ![1024, 2]⟩
abbrev S1024x2x1 : Shape := ⟨3, ![1024, 2, 1]⟩
abbrev S1024x2x2 : Shape := ⟨3, ![1024, 2, 2]⟩
abbrev S1024x768x64 : Shape := ⟨3, ![1024, 768, 64]⟩
abbrev S1024x64 : Shape := ⟨2, ![1024, 64]⟩
abbrev S2x512x64 : Shape := ⟨3, ![2, 512, 64]⟩
abbrev S2x512x512 : Shape := ⟨3, ![2, 512, 512]⟩
abbrev S512x512 : Shape := ⟨2, ![512, 512]⟩
abbrev S1x512x512 : Shape := ⟨3, ![1, 512, 512]⟩
abbrev S2x512 : Shape := ⟨2, ![2, 512]⟩
abbrev S2x512x1 : Shape := ⟨3, ![2, 512, 1]⟩
abbrev S1024x64x768 : Shape := ⟨3, ![1024, 64, 768]⟩

abbrev nBuf : Space → Nat
  | .hbm => 172
  | .vmem => 0
  | .smem => 0
  | _ => 0

abbrev hbmTy0_0 (i : Nat) : BufTy := match i % 128 with
  | 0 => ⟨S2x512x768, .f32⟩
  | 1 => ⟨S768x16, .f32⟩
  | 2 => ⟨S16, .f32⟩
  | 3 => ⟨S16x768x64, .f32⟩
  | 4 => ⟨S16x768x64, .f32⟩
  | 5 => ⟨S16x768x64, .f32⟩
  | 6 => ⟨S16x64x768, .f32⟩
  | 7 => ⟨S1024x768, .f32⟩
  | 8 => ⟨S1024x768, .f32⟩
  | 9 => ⟨S_, .f32⟩
  | 10 => ⟨S1024, .f32⟩
  | 11 => ⟨S1024x1, .f32⟩
  | 12 => ⟨S1024x1, .f32⟩
  | 13 => ⟨S_, .f32⟩
  | 14 => ⟨S_, .f32⟩
  | 15 => ⟨S1024x1, .f32⟩
  | 16 => ⟨S1024x1, .f32⟩
  | 17 => ⟨S1024x768, .f32⟩
  | 18 => ⟨S1024x768, .f32⟩
  | 19 => ⟨S768x16, .f32⟩
  | 20 => ⟨S_, .f32⟩
  | 21 => ⟨S16, .f32⟩
  | 22 => ⟨S1x16, .f32⟩
  | 23 => ⟨S1x16, .f32⟩
  | 24 => ⟨S_, .f32⟩
  | 25 => ⟨S_, .f32⟩
  | 26 => ⟨S1x16, .f32⟩
  | 27 => ⟨S1x16, .f32⟩
  | 28 => ⟨S768x16, .f32⟩
  | 29 => ⟨S768x16, .f32⟩
  | 30 => ⟨S1024x16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S1x16, .f32⟩
  | 40 => ⟨S1024x16, .f32⟩
  | 41 => ⟨S1024x16, .f32⟩
  | 42 => ⟨S_, .f32⟩
  | 43 => ⟨S1024x16, .f32⟩
  | 44 => ⟨S1024x16, .f32⟩
  | 45 => ⟨S_, .f32⟩
  | 46 => ⟨S1024x16, .f32⟩
  | 47 => ⟨S1024x16, .i1⟩
  | 48 => ⟨S1024x16, .f32⟩
  | 49 => ⟨S_, .f32⟩
  | 50 => ⟨S1024, .f32⟩
  | 51 => ⟨S_, .f32⟩
  | 52 => ⟨S1024, .f32⟩
  | 53 => ⟨S1024, .i1⟩
  | 54 => ⟨S1024x2, .f32⟩
  | 55 => ⟨S1024x2, .i32⟩
  | 56 => ⟨S_, .f32⟩
  | 57 => ⟨S1024x16, .f32⟩
  | 58 => ⟨S1024, .i32⟩
  | 59 => ⟨S1024x1, .i32⟩
  | 60 => ⟨S_, .i32⟩
  | 61 => ⟨S1024x1, .i32⟩
  | 62 => ⟨S1024x1, .i1⟩
  | 63 => ⟨S_, .i32⟩
  | 64 => ⟨S1024x1, .i32⟩
  | 65 => ⟨S1024x1, .i32⟩
  | 66 => ⟨S1024x1, .i32⟩
  | 67 => ⟨S_, .i32⟩
  | 68 => ⟨S1024x2, .i32⟩
  | 69 => ⟨S1024x2, .i1⟩
  | 70 => ⟨S_, .i32⟩
  | 71 => ⟨S1024x2, .i32⟩
  | 72 => ⟨S1024x2, .i32⟩
  | 73 => ⟨S1024x2, .i32⟩
  | 74 => ⟨S1024x2, .i32⟩
  | 75 => ⟨S1024x2x1, .i32⟩
  | 76 => ⟨S1024x2x1, .i32⟩
  | 77 => ⟨S1024x2x2, .i32⟩
  | 78 => ⟨S_, .f32⟩
  | 79 => ⟨S1024x2, .f32⟩
  | 80 => ⟨S1024x16, .f32⟩
  | 81 => ⟨S1024x1, .i1⟩
  | 82 => ⟨S1024x16, .i1⟩
  | 83 => ⟨S1024x16, .f32⟩
  | 84 => ⟨S_, .f32⟩
  | 85 => ⟨S1024x16, .f32⟩
  | 86 => ⟨S1024x16, .i1⟩
  | 87 => ⟨S_, .f32⟩
  | 88 => ⟨S1024x16, .f32⟩
  | 89 => ⟨S1024x16, .f32⟩
  | 90 => ⟨S_, .f32⟩
  | 91 => ⟨S1024, .f32⟩
  | 92 => ⟨S_, .f32⟩
  | 93 => ⟨S1024, .f32⟩
  | 94 => ⟨S1024, .f32⟩
  | 95 => ⟨S1024x1, .f32⟩
  | 96 => ⟨S1024x16, .f32⟩
  | 97 => ⟨S1024x16, .f32⟩
  | 98 => ⟨S1024x16, .f32⟩
  | 99 => ⟨S_, .f32⟩
  | 100 => ⟨S1024, .f32⟩
  | 101 => ⟨S1024x1, .f32⟩
  | 102 => ⟨S1024x16, .f32⟩
  | 103 => ⟨S1024x16, .f32⟩
  | 104 => ⟨S_, .f32⟩
  | 105 => ⟨S1024x16, .f32⟩
  | 106 => ⟨S1024x16, .i1⟩
  | 107 => ⟨S1024x16, .f32⟩
  | 108 => ⟨S1024x16, .f32⟩
  | 109 => ⟨S1024x768x64, .f32⟩
  | 110 => ⟨S_, .f32⟩
  | 111 => ⟨S1024x16, .f32⟩
  | 112 => ⟨S1024x16, .i1⟩
  | 113 => ⟨S1024x16, .f32⟩
  | 114 => ⟨S1024x16, .f32⟩
  | 115 => ⟨S1024x768x64, .f32⟩
  | 116 => ⟨S_, .f32⟩
  | 117 => ⟨S1024x16, .f32⟩
  | 118 => ⟨S1024x16, .i1⟩
  | 119 => ⟨S1024x16, .f32⟩
  | 120 => ⟨S1024x16, .f32⟩
  | 121 => ⟨S1024x768x64, .f32⟩
  | 122 => ⟨S1024x64, .f32⟩
  | 123 => ⟨S2x512x64, .f32⟩
  | 124 => ⟨S1024x64, .f32⟩
  | 125 => ⟨S2x512x64, .f32⟩
  | 126 => ⟨S1024x64, .f32⟩
  | 127 => ⟨S2x512x64, .f32⟩
  | _ => ⟨S2x512x768, .f32⟩

abbrev hbmTy0_1 (i : Nat) : BufTy := match i % 128 with
  | 0 => ⟨S2x512x512, .f32⟩
  | 1 => ⟨S_, .f32⟩
  | 2 => ⟨S2x512x512, .f32⟩
  | 3 => ⟨S2x512x512, .f32⟩
  | 4 => ⟨S_, .i1⟩
  | 5 => ⟨S512x512, .i1⟩
  | 6 => ⟨S512x512, .i32⟩
  | 7 => ⟨S_, .i32⟩
  | 8 => ⟨S512x512, .i32⟩
  | 9 => ⟨S512x512, .i32⟩
  | 10 => ⟨S512x512, .i32⟩
  | 11 => ⟨S512x512, .i1⟩
  | 12 => ⟨S_, .i1⟩
  | 13 => ⟨S512x512, .i1⟩
  | 14 => ⟨S512x512, .i1⟩
  | 15 => ⟨S1x512x512, .i1⟩
  | 16 => ⟨S_, .f32⟩
  | 17 => ⟨S2x512x512, .f32⟩
  | 18 => ⟨S2x512x512, .i1⟩
  | 19 => ⟨S2x512x512, .f32⟩
  | 20 => ⟨S_, .f32⟩
  | 21 => ⟨S2x512, .f32⟩
  | 22 => ⟨S_, .f32⟩
  | 23 => ⟨S2x512, .f32⟩
  | 24 => ⟨S2x512, .f32⟩
  | 25 => ⟨S2x512x1, .f32⟩
  | 26 => ⟨S2x512x512, .f32⟩
  | 27 => ⟨S2x512x512, .f32⟩
  | 28 => ⟨S2x512x512, .f32⟩
  | 29 => ⟨S_, .f32⟩
  | 30 => ⟨S2x512, .f32⟩
  | 31 => ⟨S2x512x1, .f32⟩
  | 32 => ⟨S2x512x512, .f32⟩
  | 33 => ⟨S2x512x512, .f32⟩
  | 34 => ⟨S2x512x64, .f32⟩
  | 35 => ⟨S_, .f32⟩
  | 36 => ⟨S1024x16, .f32⟩
  | 37 => ⟨S1024x16, .i1⟩
  | 38 => ⟨S1024x16, .f32⟩
  | 39 => ⟨S1024x16, .f32⟩
  | 40 => ⟨S1024x64x768, .f32⟩
  | 41 => ⟨S1024x64, .f32⟩
  | 42 => ⟨S1024x768, .f32⟩
  | 43 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_v0 : Ref sig .tc := ⟨.hbm, 19, rfl⟩
abbrev main_call2_cst : Ref sig .tc := ⟨.hbm, 20, rfl⟩
abbrev main_call2_v1 : Ref sig .tc := ⟨.hbm, 21, rfl⟩
abbrev main_call2_v2 : Ref sig .tc := ⟨.hbm, 22, rfl⟩
abbrev main_v5 : Ref sig .tc := ⟨.hbm, 23, rfl⟩
abbrev main_cst_0 : Ref sig .tc := ⟨.hbm, 24, rfl⟩
abbrev main_call3_v0 : Ref sig .tc := ⟨.hbm, 25, rfl⟩
abbrev main_call3_v1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call4_cst : Ref sig .tc := ⟨.hbm, 42, rfl⟩
abbrev main_call4_v0 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_values : Ref sig .tc := ⟨.hbm, 54, rfl⟩
abbrev main_indices : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_8 : Ref sig .tc := ⟨.hbm, 67, rfl⟩
abbrev main_v34 : Ref sig .tc := ⟨.hbm, 68, rfl⟩
abbrev main_v35 : Ref sig .tc := ⟨.hbm, 69, rfl⟩
abbrev main_c_9 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call5_v0 : Ref sig .tc := ⟨.hbm, 82, rfl⟩
abbrev main_v46 : Ref sig .tc := ⟨.hbm, 83, rfl⟩
abbrev main_cst_11 : Ref sig .tc := ⟨.hbm, 84, rfl⟩
abbrev main_v47 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_cst_13 : Ref sig .tc := ⟨.hbm, 90, rfl⟩
abbrev main_v51 : Ref sig .tc := ⟨.hbm, 91, rfl⟩
abbrev main_cst_14 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_15 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_16 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_17 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_18 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_19 : Ref sig .tc := ⟨.hbm, 129, rfl⟩
abbrev main_v84 : Ref sig .tc := ⟨.hbm, 130, rfl⟩
abbrev main_v85 : Ref sig .tc := ⟨.hbm, 131, rfl⟩
abbrev main_c_20 : Ref sig .tc := ⟨.hbm, 132, rfl⟩
abbrev main_v86 : Ref sig .tc := ⟨.hbm, 133, rfl⟩
abbrev main_call7_v0 : Ref sig .tc := ⟨.hbm, 134, rfl⟩
abbrev main_call7_c : Ref sig .tc := ⟨.hbm, 135, rfl⟩
abbrev main_call7_v1 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_c_0 : Ref sig .tc := ⟨.hbm, 140, rfl⟩
abbrev main_call7_v5 : Ref sig .tc := ⟨.hbm, 141, rfl⟩
abbrev main_v87 : Ref sig .tc := ⟨.hbm, 142, rfl⟩
abbrev main_v88 : Ref sig .tc := ⟨.hbm, 143, rfl⟩
abbrev main_cst_21 : Ref sig .tc := ⟨.hbm, 144, rfl⟩
abbrev main_v89 : Ref sig .tc := ⟨.hbm, 145, rfl⟩
abbrev main_call8_v0 : Ref sig .tc := ⟨.hbm, 146, rfl⟩
abbrev main_v90 : Ref sig .tc := ⟨.hbm, 147, rfl⟩
abbrev main_cst_22 : Ref sig .tc := ⟨.hbm, 148, rfl⟩
abbrev main_v91 : Ref sig .tc := ⟨.hbm, 149, rfl⟩
abbrev main_cst_23 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_24 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_25 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩

abbrev nD : Nat := 1
abbrev τ : Topo := Topo.v7x

variable {F : FTy → Type} [FloatOps F]
-- ==== Proof.TopTwo.lean ====
/- The two highest entries of a row of sixteen logits: the order the sort of the reference puts them in (higher value
   first, an earlier position first among equal values), and the kernel's way of finding the same two positions, the
   least position at which the maximum stands, twice, with the first one struck out in between. -/
module

public import Idealize.ShloMosaic.Lib.SortFacts
public import Idealize.ShloMosaic.PureOps.Ideal.Laws

@[expose] public section

set_option maxRecDepth 16384

noncomputable section

namespace Cert.Proof

open Idealize.ShloMosaic

/-- Position `a` of the row ranks before position `b`: its value is greater, or the values agree and `a` comes first. -/
def Before (x : Fin 16 → EReal) (a b : Fin 16) : Prop := x b < x a ∨ (x a = x b ∧ a < b)

/-- `f` and `s` are the first and the second position of the row by rank. -/
structure IsTop (x : Fin 16 → EReal) (f s : Fin 16) : Prop where
  ne : s ≠ f
  first : ∀ e, e ≠ f → Before x f e
  second : ∀ e, e ≠ f → e ≠ s → Before x s e

open Classical in
/-- The rank as a Boolean relation. -/
def before (x : Fin 16 → EReal) (a b : Fin 16) : Bool := decide (Before x a b)

/-- The comparator of a descending sort by value alone. -/
def above (x : Fin 16 → EReal) (a b : Fin 16) : Bool := Ideal.cmp .ogt (x a) (x b) == 1#1

/-- The comparator holds of two positions when the first one's entry is larger. -/
theorem above_iff (x : Fin 16 → EReal) (a b : Fin 16) : above x a b = true ↔ x b < x a := by
  unfold above Ideal.cmp
  by_cases h : x b < x a <;> simp [h]

/-- The comparator that breaks ties, as a proposition. -/
theorem before_iff (x : Fin 16 → EReal) (a b : Fin 16) : before x a b = true ↔ Before x a b := by simp [before]

/-- The comparator that breaks ties, denied. -/
theorem before_false_iff (x : Fin 16 → EReal) (a b : Fin 16) : before x a b = false ↔ ¬ Before x a b := by simp [before]

/-- Of two positions, one comes before the other, or they are one. -/
theorem not_before (x : Fin 16 → EReal) (a b : Fin 16) : ¬ Before x a b ↔ a = b ∨ Before x b a := by
  unfold Before
  rcases lt_trichotomy (x a) (x b) with h | h | h
  · simp [h, h.not_gt, h.ne, h.ne']
  · simp only [h, lt_irrefl, false_or, true_and, not_lt]
    rw [le_iff_lt_or_eq, or_comm, eq_comm]
  · have hab : a ≠ b := fun e => by subst e; exact lt_irrefl _ h
    simp [h, h.not_gt, h.ne, h.ne', hab]

/-- Not coming before is transitive. -/
theorem before_negTrans (x : Fin 16 → EReal) (a b c : Fin 16) (hab : before x a b = false) (hbc : before x b c = false) :
    before x a c = false := by
  rw [before_false_iff, not_before] at *
  rcases hab with rfl | hab
  · exact hbc
  · rcases hbc with rfl | hbc
    · exact .inr hab
    · refine .inr ?_
      unfold Before at *
      rcases hab with hab | ⟨hab, h⟩ <;> rcases hbc with hbc | ⟨hbc, h'⟩
      · exact .inl (hab.trans hbc)
      · exact .inl (hbc ▸ hab)
      · exact .inl (hab ▸ hbc)
      · exact .inr ⟨hbc.trans hab, h'.trans h⟩

/-- A stable sort by value alone of a list of increasing positions is the sort by rank: an element put in stands before
    all those already there. -/
theorem stableSort_above (x : Fin 16 → EReal) (l : List (Fin 16)) (hl : l.Pairwise (· < ·)) :
    stableSort (above x) l = stableSort (before x) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    rw [Bool.eq_iff_iff, above_iff, before_iff]
    unfold Before
    exact ⟨.inl, fun h => h.elim id fun h => absurd h.2 hab.not_gt⟩

/-- The position a stable descending sort of the row puts at place `k`. -/
def ranked (x : Fin 16 → EReal) (k : Fin 16) : Fin 16 := sortedFrom (above x) k

/-- Equal sorts put the same position at each place. -/
theorem sortedFrom_of_positions {n : Nat} (R R' : Fin n → Fin n → Bool) (h : sortPositions n R = sortPositions n R')
    (k : Fin n) : sortedFrom R k = sortedFrom R' k := by
  have key : ∀ (l l' : List (Fin n)) (_ : l = l') (p : l.length = n) (p' : l'.length = n),
      l.get (k.cast p.symm) = l'.get (k.cast p'.symm) := by
    rintro l _ rfl _ _
    rfl
  exact key _ _ h (length_sortPositions n R) (length_sortPositions n R')

/-- Sorting by size alone is sorting by size and then by position, since the sort is stable. -/
theorem ranked_eq (x : Fin 16 → EReal) (k : Fin 16) : ranked x k = sortedFrom (before x) k :=
  sortedFrom_of_positions _ _ (stableSort_above x (List.finRange 16) (List.pairwise_lt_finRange 16)) k

/-- Earlier ranks come before later ones. -/
theorem ranked_before (x : Fin 16 → EReal) {i j : Fin 16} (hij : i < j) : Before x (ranked x i) (ranked x j) := by
  rw [ranked_eq, ranked_eq]
  have hne : sortedFrom (before x) j ≠ sortedFrom (before x) i :=
    fun h => hij.ne' (sortedFrom_injective _ h)
  have h := sortedFrom_noInversion (before x) (before x)
    (fun a b h => by
      rw [before_false_iff, not_before]
      exact .inr ((before_iff x a b).mp h))
    (fun _ _ h => h) (before_negTrans x) i j hij
  rw [before_false_iff, not_before] at h
  exact h.resolve_left hne

/-- The first two places of the sorted row hold the two positions of highest rank. -/
theorem isTop_ranked (x : Fin 16 → EReal) : IsTop x (ranked x 0) (ranked x 1) := by
  have key : ∀ e : Fin 16, ∃ j, ranked x j = e := fun e => sortedFrom_surjective (above x) e
  refine ⟨fun h => ?_, fun e he => ?_, fun e he hs => ?_⟩
  · exact absurd (sortedFrom_injective (above x) h) (by decide)
  · obtain ⟨j, rfl⟩ := key e
    exact ranked_before x (Fin.pos_of_ne_zero fun h => he (by rw [h]))
  · obtain ⟨j, rfl⟩ := key e
    refine ranked_before x ?_
    have h0 : j ≠ 0 := fun h => he (by rw [h])
    have h1 : j ≠ 1 := fun h => hs (by rw [h])
    rw [Fin.lt_def]
    have := Fin.val_ne_of_ne h0
    have := Fin.val_ne_of_ne h1
    change 1 < j.val
    have e0 : ((0 : Fin 16) : Nat) = 0 := rfl
    have e1 : ((1 : Fin 16) : Nat) = 1 := rfl
    omega

/-! ### The kernel's search -/

/-- The least position at which the row's maximum stands, `16` marking the others. -/
def leastAt (x : Fin 16 → EReal) (i : Fin 16 → BitVec 32) : BitVec 32 :=
  Finset.univ.fold IntOp.minsi 2147483647#32
    fun e => if x e = Finset.univ.fold max (Ideal.ofBits .f32 0xFF800000#32) x then i e else 16#32

/-- The row with the entry at position `k` replaced by a number below every logit. -/
def struck (x : Fin 16 → EReal) (i : Fin 16 → BitVec 32) (k : BitVec 32) : Fin 16 → EReal :=
  fun e => Scalar.select (IntOp.cmpi .eq (i e) k) (Ideal.ofBits .f32 0xFF61B1E6#32) (x e)

/-- The word of minus infinity. -/
theorem ofBits_neg_inf : Ideal.ofBits .f32 0xFF800000#32 = ⊥ := by simp [Ideal.ofBits, Ideal.ieee]

/-- The signed minimum of two words. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.mp h)]

/-- A minimum over the row of thirty-two-bit integers is the entry that is at most every other. -/
theorem fold_minsi (g : Fin 16 → BitVec 32) (k : Fin 16) (h : ∀ e, (g k).toInt ≤ (g e).toInt) :
    Finset.univ.fold IntOp.minsi 2147483647#32 g = g k := by
  apply BitVec.eq_of_toInt_eq
  rw [← Finset.fold_hom (op := IntOp.minsi) (op' := min) (m := BitVec.toInt) toInt_minsi]
  refine le_antisymm ?_ ?_
  · rw [Finset.fold_min_le]
    exact .inr ⟨k, Finset.mem_univ _, le_rfl⟩
  · rw [Finset.le_fold_min]
    refine ⟨?_, fun e _ => h e⟩
    have := BitVec.toInt_lt (x := g k)
    have e : (2147483647#32).toInt = 2147483647 := by decide
    rw [e]
    omega

/-- The maximum of a row is the entry that is at least every other. -/
theorem fold_max_eq (x : Fin 16 → EReal) (k : Fin 16) (h : ∀ e, x e ≤ x k) :
    Finset.univ.fold max (Ideal.ofBits .f32 0xFF800000#32) x = x k := by
  rw [ofBits_neg_inf]
  refine le_antisymm ?_ ?_
  · rw [Finset.fold_max_le]
    exact ⟨bot_le, fun e _ => h e⟩
  · rw [Finset.le_fold_max]
    exact .inr ⟨k, Finset.mem_univ _, le_rfl⟩

/-- An expert's number is its own signed reading. -/
theorem toInt_ofNat_fin (e : Fin 16) : (BitVec.ofNat 32 e.val).toInt = e.val := by
  revert e; decide

/-- Experts with equal words are equal. -/
theorem ofNat_fin_inj (a b : Fin 16) : BitVec.ofNat 32 a.val = BitVec.ofNat 32 b.val ↔ a = b := by
  revert a b; decide

/-- The search finds the position of highest rank. -/
theorem leastAt_eq (x : Fin 16 → EReal) (k : Fin 16) (h : ∀ e, e ≠ k → Before x k e) :
    leastAt x (fun e => BitVec.ofNat 32 e.val) = BitVec.ofNat 32 k.val := by
  have hle : ∀ e, x e ≤ x k := fun e => by
    by_cases he : e = k
    · rw [he]
    · rcases h e he with h | h
      · exact h.le
      · exact h.1.ge
  unfold leastAt
  rw [fold_max_eq x k hle, fold_minsi _ k]
  · rw [if_pos rfl]
  · intro e
    rw [if_pos rfl, toInt_ofNat_fin]
    split
    · rename_i hx
      rw [toInt_ofNat_fin]
      by_cases he : e = k
      · rw [he]
      · rcases h e he with h | h
        · exact absurd hx h.ne
        · exact_mod_cast h.2.le
    · have : (16#32).toInt = 16 := by decide
      rw [this]
      have := k.isLt
      omega

/-- A row with one entry struck out. -/
theorem struck_apply (x : Fin 16 → EReal) (f e : Fin 16) :
    struck x (fun e => BitVec.ofNat 32 e.val) (BitVec.ofNat 32 f.val) e
      = if e = f then Ideal.ofBits .f32 0xFF61B1E6#32 else x e := by
  unfold struck Scalar.select IntOp.cmpi
  by_cases h : e = f
  · subst h; simp
  · have : ¬ BitVec.ofNat 32 e.val = BitVec.ofNat 32 f.val := fun h' => h ((ofNat_fin_inj e f).mp h')
    rw [if_neg h, beq_eq_false_iff_ne.mpr this]
    rfl

/-- The search in the struck row finds the second position, when every entry is above the number struck in. -/
theorem leastAt_struck (x : Fin 16 → EReal) (f s : Fin 16) (h : IsTop x f s)
    (hx : ∀ e, Ideal.ofBits .f32 0xFF61B1E6#32 < x e) :
    leastAt (struck x (fun e => BitVec.ofNat 32 e.val) (BitVec.ofNat 32 f.val)) (fun e => BitVec.ofNat 32 e.val)
      = BitVec.ofNat 32 s.val := by
  refine leastAt_eq _ s fun e he => ?_
  unfold Before
  rw [struck_apply, struck_apply, if_neg h.ne]
  by_cases hf : e = f
  · rw [if_pos hf]
    exact .inl (hx s)
  · rw [if_neg hf]
    exact h.second e hf he

end Cert.Proof
-- ==== Proof.Reals.lean ====
/- Extended reals that are real: the numbers the program meets once its weights are finite. Sums and products of such
   numbers rearrange as in the reals; the softmax of a real row is real; a vector divided by its own norm, however the
   vector was, has real entries between `-1` and `1`. -/
module

public import Idealize.ShloMosaic.PureOps.Ideal.Laws

@[expose] public section

set_option maxRecDepth 16384

noncomputable section

namespace Cert.Proof

open Idealize.ShloMosaic

/-- The extended real is a real number. -/
def IsReal (x : EReal) : Prop := ∃ r : ℝ, x = r

/-- A real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- What is neither infinity is real. -/
theorem isReal_of_ne {x : EReal} (hb : x ≠ ⊥) (ht : x ≠ ⊤) : IsReal x := ⟨x.toReal, (EReal.coe_toReal ht hb).symm⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is real. -/
theorem IsReal.max {x y : EReal} (hx : IsReal x) (hy : IsReal y) : IsReal (max x y) := by
  rcases max_choice x y with h | h <;> rw [h] <;> assumption

/-- A choice between two reals is real. -/
theorem IsReal.ite {p : Prop} [Decidable p] {x y : EReal} (hx : IsReal x) (hy : IsReal y) :
    IsReal (if p then x else y) := by
  split <;> assumption

/-- The sum of reals, taken among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem IsReal.sum {ι : Type} (s : Finset ι) {f : ι → EReal} (h : ∀ k, IsReal (f k)) : IsReal (∑ k ∈ s, f k) := by
  choose g hg using h
  exact ⟨∑ k ∈ s, g k, by rw [coe_sum]; exact Finset.sum_congr rfl fun k _ => hg k⟩

/-! ### Rearranging -/

/-- A weighted sum of inner products is the inner product with the weighted sum. -/
theorem sum_weighted {m n : Nat} (w : Fin m → EReal) (p : Fin m → Fin n → EReal) (x : Fin n → EReal)
    (hw : ∀ e, IsReal (w e)) (hp : ∀ e c, IsReal (p e c)) (hx : ∀ c, IsReal (x c)) :
    ∑ e, w e * (∑ c, p e c * x c) = ∑ c, x c * (∑ e, w e * p e c) := by
  choose w' hw' using hw
  choose p' hp' using hp
  choose x' hx' using hx
  simp only [hw', hp', hx', ← EReal.coe_mul, ← coe_sum]
  congr 1
  simp only [Finset.mul_sum]
  rw [Finset.sum_comm]
  exact Finset.sum_congr rfl fun c _ => Finset.sum_congr rfl fun e _ => by ring

/-- A sum over pairs of products of three factors, one of them on the first index and one on the second. -/
theorem sum_split {m n : Nat} (w : Fin m → EReal) (o : Fin m → Fin n → EReal) (a : Fin n → EReal)
    (hw : ∀ e, IsReal (w e)) (ho : ∀ e h, IsReal (o e h)) (ha : ∀ h, IsReal (a h)) :
    ∑ e, ∑ h, a h * w e * o e h = ∑ h, a h * (∑ e, w e * o e h) := by
  choose w' hw' using hw
  choose o' ho' using ho
  choose a' ha' using ha
  simp only [hw', ho', ha', ← EReal.coe_mul, ← coe_sum]
  congr 1
  simp only [Finset.mul_sum]
  rw [Finset.sum_comm]
  exact Finset.sum_congr rfl fun c _ => Finset.sum_congr rfl fun e _ => by ring

/-- A factor common to the left operands of an inner product moves out of it. -/
theorem sum_scaled {n : Nat} (q k : Fin n → EReal) (c : EReal) (hq : ∀ h, IsReal (q h)) (hk : ∀ h, IsReal (k h))
    (hc : IsReal c) : ∑ h, (q h * c) * k h = (∑ h, q h * k h) * c := by
  choose q' hq' using hq
  choose k' hk' using hk
  obtain ⟨c, rfl⟩ := hc
  simp only [hq', hk', ← EReal.coe_mul, ← coe_sum]
  congr 1
  rw [Finset.sum_mul]
  exact Finset.sum_congr rfl fun h _ => by ring

/-! ### Softmax -/

/-- The softmax of a row: the exponentials of the differences from the row's maximum, over their sum. -/
def softmax {n : Nat} (x : Fin n → EReal) (e : Fin n) : EReal :=
  Ideal.div (Ideal.exp (x e - Finset.univ.fold max (Ideal.ofBits .f32 0xFF800000#32) x))
    (∑ k, Ideal.exp (x k - Finset.univ.fold max (Ideal.ofBits .f32 0xFF800000#32) x))

/-- Rows equal entry by entry have equal softmaxes. -/
theorem softmax_congr {n : Nat} {x y : Fin n → EReal} (h : ∀ k, x k = y k) (e : Fin n) : softmax x e = softmax y e := by
  rw [show x = y from funext h]

/-- The maximum of finitely many reals, started at minus infinity, is real unless there are none. -/
theorem isReal_foldMax {ι : Type} (s : Finset ι) {x : ι → EReal} (h : ∀ k, IsReal (x k)) :
    s.fold max ⊥ x = ⊥ ∧ s = ∅ ∨ IsReal (s.fold max ⊥ x) := by
  classical
  induction s using Finset.induction_on with
  | empty => exact .inl ⟨rfl, rfl⟩
  | insert a s ha ih =>
    refine .inr ?_
    rw [Finset.fold_insert ha]
    rcases ih with ⟨ih, -⟩ | ih
    · rw [ih, max_eq_left bot_le]; exact h a
    · exact (h a).max ih

/-- The softmax of a row of reals is real. -/
theorem isReal_softmax {n : Nat} {x : Fin n → EReal} (h : ∀ k, IsReal (x k)) (e : Fin n) : IsReal (softmax x e) := by
  have hb : Ideal.ofBits .f32 0xFF800000#32 = ⊥ := by simp [Ideal.ofBits, Ideal.ieee]
  obtain ⟨M, hM⟩ : IsReal (Finset.univ.fold max (Ideal.ofBits .f32 0xFF800000#32) x) := by
    rw [hb]
    rcases isReal_foldMax Finset.univ h with ⟨-, h0⟩ | h
    · exact absurd (Finset.mem_univ e) (by rw [h0]; exact Finset.notMem_empty e)
    · exact h
  choose g hg using h
  unfold softmax
  simp only [hM]
  simp only [hg, ← EReal.coe_sub, Ideal.exp_coe, ← coe_sum]
  have hpos : 0 < ∑ k, Real.exp (g k - M) :=
    Finset.sum_pos (fun k _ => Real.exp_pos _) ⟨e, Finset.mem_univ e⟩
  rw [Ideal.div_coe hpos.ne']
  exact (isReal_coe _).mul (isReal_coe _)

/-! ### Vectors over their norms -/

/-- The number the norms are clipped to from below. -/
def eps : EReal := Ideal.ofBits .f32 0x2B8CBCCC#32

/-- The lower bound on a norm is a positive real. -/
theorem eps_pos : ∃ r : ℝ, eps = r ∧ 0 < r := by
  refine ⟨_, by simp only [eps, Ideal.ofBits, Ideal.ieee]; rw [if_neg (by decide), if_neg (by decide)], ?_⟩
  have : (BitVec.extractLsb' (8 + 23) 1 (0x2B8CBCCC#32 : BitVec 32) == 1#1) = false := by decide
  rw [this]
  simp only [Bool.false_eq_true, if_false, one_mul]
  positivity

/-- An entry of the vector `x` over the vector's clipped norm. -/
def unitEntry {n : Nat} (x : Fin n → EReal) (c : Fin n) : EReal :=
  Ideal.div (x c) (max (Ideal.sqrt (∑ k, x k * x k)) eps)

/-- A square is not negative. -/
theorem mul_self_nonneg' (x : EReal) : 0 ≤ x * x := by
  rcases le_total 0 x with h | h
  · exact EReal.mul_nonneg h h
  · rw [EReal.mul_nonneg_iff]; exact .inr ⟨h, h⟩

/-- Every entry of a vector over its clipped norm is a real between `-1` and `1`. -/
theorem unitEntry_real {n : Nat} (x : Fin n → EReal) (c : Fin n) :
    ∃ r : ℝ, unitEntry x c = r ∧ |r| ≤ 1 := by
  obtain ⟨ε, hε, hpos⟩ := eps_pos
  have hsingle : ∀ k, x k * x k ≤ ∑ k, x k * x k := fun k =>
    Finset.single_le_sum (f := fun k => x k * x k) (fun i _ => mul_self_nonneg' (x i)) (Finset.mem_univ k)
  unfold unitEntry
  by_cases hS : ∑ k, x k * x k = ⊤
  · rw [hS, Ideal.sqrt_top, max_eq_left le_top, Ideal.div, if_neg EReal.top_ne_zero, EReal.inv_top, mul_zero]
    exact ⟨0, rfl, by simp⟩
  · have hreal : ∀ k, IsReal (x k) := fun k => by
      refine isReal_of_ne (fun h => hS ?_) (fun h => hS ?_)
      · have := hsingle k
        rw [h, EReal.bot_mul_bot] at this
        exact top_le_iff.mp this
      · have := hsingle k
        rw [h, EReal.top_mul_top] at this
        exact top_le_iff.mp this
    choose g hg using hreal
    simp only [hg, hε, ← EReal.coe_mul, ← coe_sum]
    have hnn : 0 ≤ ∑ k, g k * g k := Finset.sum_nonneg fun k _ => mul_self_nonneg (g k)
    rw [Ideal.sqrt_coe, if_neg hnn.not_gt, ← EReal.coe_strictMono.monotone.map_max]
    have hd : 0 < max (√(∑ k, g k * g k)) ε := lt_max_of_lt_right hpos
    rw [Ideal.div_coe hd.ne']
    refine ⟨g c * (1 / max (√(∑ k, g k * g k)) ε), (EReal.coe_mul _ _).symm, ?_⟩
    rw [mul_one_div, abs_div, abs_of_pos hd, div_le_one hd]
    refine le_max_of_le_left (Real.abs_le_sqrt ?_)
    rw [sq]
    exact Finset.single_le_sum (f := fun k => g k * g k) (fun i _ => mul_self_nonneg (g i)) (Finset.mem_univ c)

/-- A logit, the inner product of two normalised vectors less a sigmoid, is real and at least `-n - 1`. -/
theorem logit_real {n : Nat} (x y : Fin n → EReal) (g : EReal) :
    ∃ r : ℝ, (∑ c, unitEntry x c * unitEntry y c) - Ideal.logistic g = r ∧ -(n : ℝ) - 1 ≤ r := by
  choose a ha ha' using unitEntry_real x
  choose b hb hb' using unitEntry_real y
  obtain ⟨s, hs, hs'⟩ : ∃ s : ℝ, Ideal.logistic g = s ∧ s ≤ 1 := by
    induction g with
    | bot => exact ⟨0, Ideal.logistic_bot, by norm_num⟩
    | top => exact ⟨1, Ideal.logistic_top, le_rfl⟩
    | coe r =>
      refine ⟨_, Ideal.logistic_coe r, inv_le_one_of_one_le₀ ?_⟩
      have := (Real.exp_pos (-r)).le
      linarith
  simp only [ha, hb, hs, ← EReal.coe_mul, ← coe_sum, ← EReal.coe_sub]
  refine ⟨_, rfl, ?_⟩
  have hsum : -(n : ℝ) ≤ ∑ c, a c * b c := by
    have h : ∀ c ∈ (Finset.univ : Finset (Fin n)), (-1 : ℝ) ≤ a c * b c := fun c _ => by
      have : |a c * b c| ≤ 1 := by
        rw [abs_mul]
        exact mul_le_one₀ (ha' c) (abs_nonneg _) (hb' c)
      exact (abs_le.mp this).1
    have := Finset.sum_le_sum h
    simpa using this
  linarith

end Cert.Proof
-- ==== Proof.Route.lean ====
/- The routing of one token: from the row of its sixteen logits to the weight of each expert. The weights are those of a
   softmax over the active experts, the ones whose logit is positive, or, when there is none, over the two experts of
   highest logit. First in plain terms (`route`), then as the kernel computes it from the row (`kernelRoute`), and that
   the two agree when every logit is above the number the kernel strikes an entry out with. -/
module

public import proofs.«01_k».proof.Proof.TopTwo
public import proofs.«01_k».proof.Proof.Reals

@[expose] public section

set_option maxRecDepth 16384

noncomputable section

namespace Cert.Proof

open Idealize.ShloMosaic

/-- One where the logit is positive, zero elsewhere. -/
def active (x : Fin 16 → EReal) (e : Fin 16) : EReal := if 0 < max (x e) 0 then 1 else 0

/-- No logit of the row is positive. -/
def Idle (x : Fin 16 → EReal) : Prop := ∑ e, active x e = 0

/-- One at the two positions of highest logit, zero elsewhere. -/
def topTwo (x : Fin 16 → EReal) (e : Fin 16) : EReal := if e = ranked x 0 ∨ e = ranked x 1 then 1 else 0

open Classical in
/-- The experts the token is sent to. -/
def mask (x : Fin 16 → EReal) (e : Fin 16) : EReal := if Idle x then topTwo x e else active x e

/-- The number that stands for an expert, or a position, that is masked out. -/
def negBig : EReal := Ideal.ofBits .f32 0xCE6E6B28#32

/-- The positive parts of the logits of the experts the token is sent to. -/
def masked (x : Fin 16 → EReal) (e : Fin 16) : EReal := if 0 < mask x e then max (x e) 0 else negBig

/-- The weight of each expert for the token. -/
def route (x : Fin 16 → EReal) (e : Fin 16) : EReal := softmax (masked x) e * mask x e

/-- A mask's entry is zero or one. -/
theorem mask_zero_or_one (x : Fin 16 → EReal) (e : Fin 16) : mask x e = 0 ∨ mask x e = 1 := by
  unfold mask topTwo active
  split <;> split <;> simp

/-- A mask's entry is real. -/
theorem isReal_mask (x : Fin 16 → EReal) (e : Fin 16) : IsReal (mask x e) := by
  rcases mask_zero_or_one x e with h | h <;> rw [h]
  · exact isReal_zero
  · exact isReal_one

/-- A pattern whose exponent is not all ones denotes a real. -/
theorem isReal_ieee (e m : Nat) {w : Nat} (b : BitVec w) (h : (b.extractLsb' m e).toNat ≠ 2 ^ e - 1) :
    IsReal (Ideal.ieee e m b) := by
  unfold Ideal.ieee
  dsimp only
  rw [if_neg h]
  split <;> exact isReal_coe _

/-- The value that stands for a masked entry is real. -/
theorem isReal_negBig : IsReal negBig := isReal_ieee 8 23 (0xCE6E6B28#32 : BitVec 32) (by decide)

/-- Real logits give real weights. -/
theorem isReal_route (x : Fin 16 → EReal) (hx : ∀ e, IsReal (x e)) (e : Fin 16) : IsReal (route x e) :=
  (isReal_softmax (fun k => IsReal.ite ((hx k).max isReal_zero) isReal_negBig) e).mul (isReal_mask x e)

/-! ### The kernel's row -/

/-- The kernel's mask: `k` is the position its first search gave. -/
def kernelMask (x a : Fin 16 → EReal) (d : BitVec 1) (i : Fin 16 → BitVec 32) (k : BitVec 32) (e : Fin 16) : EReal :=
  Scalar.select d
    (FloatOps.sitofp (F := Ideal) .f32 (BitVec.setWidth 32
      (IntOp.ori (IntOp.cmpi .eq (i e) k) (IntOp.cmpi .eq (i e) (leastAt (struck x i k) i))))) (a e)

/-- The kernel's weights. -/
def kernelRoute (x p a : Fin 16 → EReal) (d : BitVec 1) (i : Fin 16 → BitVec 32) (k : BitVec 32) (e : Fin 16) : EReal :=
  softmax (fun j => if 0 < kernelMask x a d i k j then p j else Ideal.ofBits .f32 0xCE6E6B28#32) e
    * kernelMask x a d i k e

/-- A bit, widened and converted, is one or zero. -/
theorem sitofp_setWidth (b : Bool) :
    FloatOps.sitofp (F := Ideal) .f32 (BitVec.setWidth 32 (BitVec.ofBool b)) = if b then (1 : EReal) else 0 := by
  cases b
  · show (((BitVec.setWidth 32 (BitVec.ofBool false)).toInt : ℝ) : EReal) = _
    rw [show (BitVec.setWidth 32 (BitVec.ofBool false)).toInt = 0 by decide]
    simp
  · show (((BitVec.setWidth 32 (BitVec.ofBool true)).toInt : ℝ) : EReal) = _
    rw [show (BitVec.setWidth 32 (BitVec.ofBool true)).toInt = 1 by decide]
    simp

/-- A bit, converted, is one or zero. -/
theorem uitofp_ofBool (b : Bool) :
    FloatOps.uitofp (F := Ideal) .f32 (BitVec.ofBool b) = if b then (1 : EReal) else 0 := by
  cases b
  · show (((BitVec.ofBool false).toNat : ℝ) : EReal) = _
    simp
  · show (((BitVec.ofBool true).toNat : ℝ) : EReal) = _
    simp

/-- A selection by a bit is a choice by its condition. -/
theorem select_ofBool {α : Type} (b : Bool) (x y : α) : Scalar.select (BitVec.ofBool b) x y = if b then x else y := by
  cases b <;> rfl

/-- The numbers the kernel strikes an entry out with. -/
def struckValue : EReal := Ideal.ofBits .f32 0xFF61B1E6#32

/-- The kernel's mask is the routing's, for logits above the struck value. -/
theorem kernelMask_eq (x a : Fin 16 → EReal) (ha : ∀ e, a e = active x e) (hx : ∀ e, struckValue < x e)
    (d : BitVec 1) [Decidable (∑ e, a e = 0)] (hd : d = BitVec.ofBool (decide (∑ e, a e = 0))) (e : Fin 16) :
    kernelMask x a d (fun e => BitVec.ofNat 32 e.val) (leastAt x fun e => BitVec.ofNat 32 e.val) e = mask x e := by
  have ht := isTop_ranked x
  obtain rfl : a = active x := funext ha
  unfold kernelMask mask
  rw [hd, select_ofBool, leastAt_eq x _ ht.first, leastAt_struck x _ _ ht hx]
  have hor : IntOp.ori (IntOp.cmpi .eq (BitVec.ofNat 32 e.val) (BitVec.ofNat 32 (ranked x 0).val))
      (IntOp.cmpi .eq (BitVec.ofNat 32 e.val) (BitVec.ofNat 32 (ranked x 1).val))
        = BitVec.ofBool (decide (e = ranked x 0 ∨ e = ranked x 1)) := by
    generalize ranked x 0 = f
    generalize ranked x 1 = s
    revert e f s
    decide
  rw [hor, sitofp_setWidth]
  simp only [decide_eq_true_eq]
  unfold Idle topTwo
  by_cases h : ∑ e, active x e = 0
  · rw [if_pos h, if_pos h]
  · rw [if_neg h, if_neg h]

/-- The kernel's weights are the routing's, for logits above the struck value. -/
theorem kernelRoute_eq (x p a : Fin 16 → EReal) (hp : ∀ e, p e = max (x e) 0) (ha : ∀ e, a e = active x e)
    (hx : ∀ e, struckValue < x e) (d : BitVec 1) [Decidable (∑ e, a e = 0)]
    (hd : d = BitVec.ofBool (decide (∑ e, a e = 0))) (e : Fin 16) :
    kernelRoute x p a d (fun e => BitVec.ofNat 32 e.val) (leastAt x fun e => BitVec.ofNat 32 e.val) e = route x e := by
  unfold kernelRoute route
  simp only [kernelMask_eq x a ha hx d hd, hp]
  rfl

/-- A logit, at least `-769`, is above the number struck in. -/
theorem struckValue_lt {r : ℝ} (h : -(768 : ℝ) - 1 ≤ r) : struckValue < (r : EReal) := by
  have hv : ∃ s : ℝ, struckValue = s ∧ s < -769 := by
    refine ⟨_, by simp only [struckValue, Ideal.ofBits, Ideal.ieee]; rw [if_neg (by decide), if_neg (by decide)], ?_⟩
    rw [show (BitVec.extractLsb' (8 + 23) 1 (0xFF61B1E6#32 : BitVec 32) == 1#1) = true by decide,
      show (BitVec.extractLsb' 0 23 (0xFF61B1E6#32 : BitVec 32)).toNat = 6402534 by decide,
      show (BitVec.extractLsb' 23 8 (0xFF61B1E6#32 : BitVec 32)).toNat = 254 by decide]
    norm_num
  obtain ⟨s, hs, hlt⟩ := hv
  rw [hs, EReal.coe_lt_coe_iff]
  linarith

end Cert.Proof
-- ==== Proof.Spec.lean ====
/- What the layer computes, entry by entry, in plain terms: the logits of the routing, the projections weighted by the
   routing, causal attention within each of the two sequences, and the weighted projection of its result. The tokens
   are numbered through, the sequence `b` holding the tokens `512 b` to `512 b + 511`. -/
module

public import proofs.«01_k».proof.Proof.Route

@[expose] public section

set_option maxRecDepth 16384

noncomputable section

namespace Cert.Proof

open Idealize.ShloMosaic

/-- The token at place `s` of sequence `b`. -/
def tok (b : Fin 2) (s : Fin 512) : Fin 1024 := ⟨b.val * 512 + s.val, by have := b.isLt; have := s.isLt; omega⟩

/-- The logit of expert `e` for token `n`: the cosine of the token's vector and the expert's, less the gate. -/
def logit (X : Fin 1024 → Fin 768 → EReal) (S : Fin 768 → Fin 16 → EReal) (G : Fin 16 → EReal)
    (n : Fin 1024) (e : Fin 16) : EReal :=
  (∑ c, unitEntry (X n) c * unitEntry (fun c => S c e) c) - Ideal.logistic (G e)

/-- The weight of expert `e` for token `n`. -/
def weight (X : Fin 1024 → Fin 768 → EReal) (S : Fin 768 → Fin 16 → EReal) (G : Fin 16 → EReal)
    (n : Fin 1024) (e : Fin 16) : EReal := route (logit X S G n) e

/-- The token's vector under the projection `P`, its experts mixed by their weights `w`. -/
def proj (X : Fin 1024 → Fin 768 → EReal) (w : Fin 1024 → Fin 16 → EReal) (P : Fin 16 → Fin 768 → Fin 64 → EReal)
    (n : Fin 1024) (h : Fin 64) : EReal := ∑ c, X n c * ∑ e, w n e * P e c h

/-- The factor one eighth on the scores. -/
def eighth : EReal := Ideal.ofBits .f32 0x3E000000#32

/-- The score of the token at place `t` for the one at place `s`, masked out when it comes later. -/
def score (q k : Fin 1024 → Fin 64 → EReal) (b : Fin 2) (s t : Fin 512) : EReal :=
  if t ≤ s then (∑ h, q (tok b s) h * k (tok b t) h) * eighth else negBig

/-- The values averaged by the softmax of the scores. -/
def attend (q k v : Fin 1024 → Fin 64 → EReal) (b : Fin 2) (s : Fin 512) (h : Fin 64) : EReal :=
  ∑ t, softmax (score q k b s) t * v (tok b t) h

/-- The attention's result under the output projection `O`, its experts mixed by their weights `w`. -/
def outProj (w : Fin 1024 → Fin 16 → EReal) (O : Fin 16 → Fin 64 → Fin 768 → EReal)
    (a : Fin 2 → Fin 512 → Fin 64 → EReal) (b : Fin 2) (s : Fin 512) (c : Fin 768) : EReal :=
  ∑ h, a b s h * ∑ e, w (tok b s) e * O e h c

/-- The layer's result at channel `c` of the token at place `s` of sequence `b`. -/
def layer (X : Fin 1024 → Fin 768 → EReal) (S : Fin 768 → Fin 16 → EReal) (G : Fin 16 → EReal)
    (Q K V : Fin 16 → Fin 768 → Fin 64 → EReal) (O : Fin 16 → Fin 64 → Fin 768 → EReal)
    (b : Fin 2) (s : Fin 512) (c : Fin 768) : EReal :=
  outProj (weight X S G) O
    (attend (proj X (weight X S G) Q) (proj X (weight X S G) K) (proj X (weight X S G) V)) b s c

variable (X : Fin 1024 → Fin 768 → EReal) (S : Fin 768 → Fin 16 → EReal) (G : Fin 16 → EReal)

/-- Every logit is real, whatever the arguments. -/
theorem isReal_logit (n : Fin 1024) (e : Fin 16) : IsReal (logit X S G n e) := by
  obtain ⟨r, hr, -⟩ := logit_real (X n) (fun c => S c e) (G e)
  exact ⟨r, hr⟩

/-- Every logit is above the number the kernel strikes an entry out with. -/
theorem struckValue_lt_logit (n : Fin 1024) (e : Fin 16) : struckValue < logit X S G n e := by
  obtain ⟨r, hr, h⟩ := logit_real (X n) (fun c => S c e) (G e)
  have : logit X S G n e = r := hr
  rw [this]
  exact struckValue_lt (by exact_mod_cast h)

/-- Every weight is real, whatever the arguments. -/
theorem isReal_weight (n : Fin 1024) (e : Fin 16) : IsReal (weight X S G n e) :=
  isReal_route _ (isReal_logit X S G n) e

variable {X}

/-- A projected token is real when the token, the weights and the projection are. -/
theorem isReal_proj {w : Fin 1024 → Fin 16 → EReal} {P : Fin 16 → Fin 768 → Fin 64 → EReal}
    (hX : ∀ n c, IsReal (X n c)) (hw : ∀ n e, IsReal (w n e)) (hP : ∀ e c h, IsReal (P e c h)) (n : Fin 1024)
    (h : Fin 64) : IsReal (proj X w P n h) :=
  .sum _ fun c => (hX n c).mul (.sum _ fun e => (hw n e).mul (hP e c h))

/-- One eighth is real. -/
theorem isReal_eighth : IsReal eighth := isReal_ieee 8 23 (0x3E000000#32 : BitVec 32) (by decide)

/-- The attention's result is real when queries, keys and values are. -/
theorem isReal_attend {q k v : Fin 1024 → Fin 64 → EReal} (hq : ∀ n h, IsReal (q n h)) (hk : ∀ n h, IsReal (k n h))
    (hv : ∀ n h, IsReal (v n h)) (b : Fin 2) (s : Fin 512) (h : Fin 64) : IsReal (attend q k v b s h) := by
  refine .sum _ fun t => (isReal_softmax (fun j => ?_) t).mul (hv _ h)
  unfold score
  exact .ite ((IsReal.sum _ fun h => (hq _ h).mul (hk _ h)).mul isReal_eighth) isReal_negBig

end Cert.Proof
-- ==== Proof.Kernel.lean ====
/- The kernel's payloads read at an index, over the vectors it loads: the logits, the routing weights, the projections,
   the attention, and the output projection. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof

open Idealize.ShloMosaic Cert.KernelIdeal Cert.KernelIdeal.Gen

/-- The tokens' vectors, from the kernel's first operand. -/
abbrev kX (x : FVec Ideal S1024x768 .f32) (n : Fin 1024) (c : Fin 768) : EReal := x (ix2 n c)

/-- The experts' vectors, from the kernel's second operand, which holds them by rows. -/
abbrev kS (s : FVec Ideal S16x768 .f32) (c : Fin 768) (e : Fin 16) : EReal := s (ix2 e c)

/-- The experts' gates, from the kernel's third operand. -/
abbrev kG (g : FVec Ideal S16x1 .f32) (e : Fin 16) : EReal := g (ix2 e 0)

section Routing

variable (x : FVec Ideal S1024x768 .f32) (s : FVec Ideal S16x768 .f32) (g : FVec Ideal S16x1 .f32)

/-- The kernel's logits are the routing's. -/
theorem k_logit (e : Fin 16) (n : Fin 1024) : k0_pay3 (F := Ideal) x s g (ix2 e n) = logit (kX x) (kS s) (kG g) n e := by
  pointwise [k0_pay3, k0_pay2]
  exact congrArg (· - _) (Finset.sum_congr rfl fun c _ => mul_comm _ _)

/-- The kernel's indicator of a positive logit. -/
theorem k_active (e : Fin 16) (n : Fin 1024) :
    k0_pay5 (F := Ideal) x s g (ix2 e n) = active (logit (kX x) (kS s) (kG g) n) e := by
  pointwise [k0_pay5, k0_pay4]
  rw [sitofp_setWidth, k_logit, active]
  simp only [decide_eq_true_eq]

/-- The kernel's weights, its row of logits, their positive parts and its marks given. -/
theorem k_route (l p a : FVec Ideal S16x1024 .f32) (d : IVec S1x1024 1) (i f : IVec S16x1024 32) (e : Fin 16)
    (n : Fin 1024) :
    k0_pay8 l p a d i f (ix2 e n)
      = kernelRoute (fun e => l (ix2 e n)) (fun e => p (ix2 e n)) (fun e => a (ix2 e n)) (d (ix2 0 n))
          (fun e => i (ix2 e n)) (Finset.univ.fold IntOp.minsi 2147483647#32 fun e => f (ix2 e n)) e := by
  pointwise [k0_pay8]
  rfl

/-- The kernel's routing weights are the layer's. -/
theorem k_weight (e : Fin 16) (n : Fin 1024) :
    k0_pay8 (F := Ideal) (k0_pay3 x s g) (k0_pay4 x s g) (k0_pay5 x s g) (k0_pay6 (F := Ideal) x s g)
        (iota .tc S16x1024 32 [0] iota_S16x1024_d0_w32) (k0_pay7 (F := Ideal) x s g) (ix2 e n)
      = weight (kX x) (kS s) (kG g) n e := by
  rw [k_route]
  have hl : (fun e => k0_pay3 (F := Ideal) x s g (ix2 e n)) = logit (kX x) (kS s) (kG g) n := funext fun e => k_logit x s g e n
  have hi : (fun e : Fin 16 => iota .tc S16x1024 32 [0] iota_S16x1024_d0_w32 (ix2 e n))
      = fun e => BitVec.ofNat 32 e.val := by
    funext e
    pointwise
  have hf : (Finset.univ.fold IntOp.minsi 2147483647#32 fun e : Fin 16 => k0_pay7 (F := Ideal) x s g (ix2 e n))
      = leastAt (logit (kX x) (kS s) (kG g) n) fun e => BitVec.ofNat 32 e.val := by
    rw [← hl]
    unfold leastAt
    congr 1
    funext e
    pointwise [k0_pay7]
  rw [hl, hi, hf]
  refine kernelRoute_eq _ _ _ (fun e => ?_) (fun e => k_active x s g e n)
    (struckValue_lt_logit (kX x) (kS s) (kG g) n) _ ?_ e
  · pointwise [k0_pay4]
    rw [k_logit]
  · pointwise [k0_pay6]
    trace_state

end Routing

section Projections

/-- The product of every projection row with every token. -/
theorem k_rows (x : FVec Ideal S1024x768 .f32) (p : FVec Ideal S3072x768 .bf16) (r : Fin 3072) (n : Fin 1024) :
    k0_pay9 x p (ix2 r n) = ∑ c, p (ix2 r c) * x (ix2 n c) := by
  pointwise [k0_pay9]

variable (w : FVec Ideal S16x1024 .f32) (y : FVec Ideal S3072x1024 .f32)

/-- Row `64 e + h` of the part of the projected rows that begins at `base`. -/
def rowOf (base : Nat) (hb : base + 1024 ≤ 3072) (e : Fin 16) (h : Fin 64) : Fin 3072 :=
  ⟨base + 64 * e.val + h.val, by have := e.isLt; have := h.isLt; omega⟩

/-- The rows of one part of the projections, mixed by the weights. -/
def mixed (base : Nat) (hb : base + 1024 ≤ 3072) (h : Fin 64) (n : Fin 1024) : EReal :=
  ∑ e, w (ix2 e n) * y (ix2 (rowOf base hb e h) n)

/-- The queries: the sixteen experts' rows, weighted and summed one after the other, then scaled by one eighth. -/
theorem k_q (u v : FVec Ideal S64x1024 .f32) (h : Fin 64) (n : Fin 1024)
    (hu : u (ix2 h n) = w (ix2 0 n) * y (ix2 (rowOf 0 (by decide) 0 h) n))
    (hv : v (ix2 h n) = w (ix2 1 n) * y (ix2 (rowOf 0 (by decide) 1 h) n)) :
    k0_pay14 w y (k0_pay12 w y u v) (k0_pay13 w y) (ix2 h n) = mixed w y 0 (by decide) h n * eighth := by
  pointwise [k0_pay14, k0_pay12, k0_pay13]
  rw [hu, hv]
  unfold mixed
  simp only [Fin.sum_univ_castSucc, Fin.sum_univ_zero, zero_add]
  rfl

/-- The keys: the sixteen experts' rows, weighted and summed. -/
theorem k_k (h : Fin 64) (n : Fin 1024) :
    k0_pay17 w y (k0_pay15 w y) (k0_pay16 w) (ix2 h n) = mixed w y 1024 (by decide) h n := by
  pointwise [k0_pay17, k0_pay15, k0_pay16]
  unfold mixed
  simp only [Fin.sum_univ_castSucc, Fin.sum_univ_zero, zero_add]
  rfl

/-- The values: the sixteen experts' rows, weighted and summed. -/
theorem k_v (h : Fin 64) (n : Fin 1024) :
    k0_pay20 w y (k0_pay18 w y) (k0_pay19 w) (ix2 h n) = mixed w y 2048 (by decide) h n := by
  pointwise [k0_pay20, k0_pay18, k0_pay19]
  unfold mixed
  simp only [Fin.sum_univ_castSucc, Fin.sum_univ_zero, zero_add]
  rfl

end Projections

section Attention

/-- The scores' mask: the key's place is not past the query's. -/
theorem k_causal (s t : Fin 512) : k0_pay21 (ix2 s t) = BitVec.ofBool (decide (t ≤ s)) := by
  pointwise [k0_pay21]
  unfold IntOp.cmpi
  have h : ∀ a : Fin 512, (BitVec.ofNat 32 a.val).toInt = a.val := by decide +kernel
  dsimp only
  rw [BitVec.sle, h, h]
  exact congrArg BitVec.ofBool (decide_eq_decide.mpr Int.ofNat_le)

variable (q k v : FVec Ideal S64x1024 .bf16)

/-- The kernel's attention at token `(b, s)`: the masked scores of its own sequence, softmaxed, average the values. -/
theorem k_attend (b : Fin 2) (s : Fin 512) (h : Fin 64) :
    k0_pay24 q k v k0_pay21 (k0_pay22 q) (k0_pay23 k) (ix2 h (tok b s))
      = ∑ t, v (ix2 h (tok b t))
          * softmax (fun t => if t ≤ s then ∑ h, q (ix2 h (tok b s)) * k (ix2 h (tok b t)) else negBig) t := by
  have hc : ∀ t : Fin 512, ∀ x y : EReal, Scalar.select (k0_pay21 (ix2 s t)) x y = if t ≤ s then x else y :=
    fun t x y => by rw [k_causal, select_ofBool]; simp only [decide_eq_true_eq]
  obtain rfl | rfl : b = 0 ∨ b = 1 := by
    revert b
    decide
  · have hs : ∀ p, (⟨(tok 0 s).val, p⟩ : Fin 512) = s := fun p => Fin.ext (by simp [tok])
    have ht : ∀ (t : Fin 512) (p), (⟨t.val, p⟩ : Fin 1024) = tok 0 t := fun t p => Fin.ext (by simp [tok])
    have hq : ∀ (h : Fin 64) (t : Fin 512), k0_pay22 q (ix2 h t) = q (ix2 h (tok 0 t)) := fun h t => by
      pointwise [k0_pay22]
      rw [ht]
    have hk : ∀ (h : Fin 64) (t : Fin 512), k0_pay23 k (ix2 h t) = k (ix2 h (tok 0 t)) := fun h t => by
      pointwise [k0_pay23]
      rw [ht]
    pointwise [k0_pay24]
    rw [dif_pos (show (tok 0 s).val < 512 by
      have := s.isLt; show 0 * 512 + s.val < 512; omega)]
    simp only [hs, hc, hq, hk, ht]
    rfl
  · have hs : ∀ p, (⟨(tok 1 s).val - 512, p⟩ : Fin 512) = s := fun p => Fin.ext (by simp [tok])
    have hs' : ∀ p, (⟨512 + ((tok 1 s).val - 512), p⟩ : Fin 1024) = tok 1 s :=
      fun p => Fin.ext (by simp [tok])
    have ht : ∀ (t : Fin 512) (p), (⟨512 + t.val, p⟩ : Fin 1024) = tok 1 t := fun t p => Fin.ext (by simp [tok])
    pointwise [k0_pay24]
    rw [dif_neg (show ¬ (tok 1 s).val < 512 by show ¬ 1 * 512 + s.val < 512; omega)]
    simp only [hs, hs', hc, ht]
    rfl

end Attention

section Output

variable (w : FVec Ideal S16x1024 .f32) (a : FVec Ideal S64x1024 .f32)

/-- A row of the weights may be cut out of them. -/
theorem slices_row : ∀ e : Fin 16, S16x1024.Slices ![e.val, 0] S1x1024 := by decide +kernel

/-- The attention's result times the weights of expert `e`. -/
def weighted (e : Fin 16) : FVec Ideal S64x1024 .bf16 :=
  truncf .bf16 (mulf a (broadcastTo S64x1024 (extractStridedSlice S1x1024 ![e.val, 0] w (slices_row e))
    broadcasts_S1x1024_S64x1024)) bitsLt_bf16_f32

/-- One expert's block of the attention's result, scaled by that expert's weight. -/
theorem weighted_apply (e : Fin 16) (h : Fin 64) (n : Fin 1024) :
    weighted w a e (ix2 h n) = a (ix2 h n) * w (ix2 e n) := by
  pointwise [weighted]

/-- The sixteen weighted results, one below the other, read at row `64 e + h`. -/
theorem k_stack (e : Fin 16) (h : Fin 64) (n : Fin 1024) :
    k0_pay30 w a (weighted w a 0) (weighted w a 1) (weighted w a 2) (weighted w a 3) (k0_pay29 w)
        (ix2 ⟨e.val * 64 + h.val, by have := e.isLt; have := h.isLt; omega⟩ n)
      = a (ix2 h n) * w (ix2 e n) := by
  rw [← weighted_apply w a e h n]
  have hh := h.isLt
  refine concatenate_ofFn_apply (t := S1024x1024) (s₁ := S64x1024) 0 (weighted w a)
    concatenates_S64x1024_S64x1024_S64x1024_S64x1024_S64x1024_S64x1024_S64x1024_S64x1024_S64x1024_S64x1024_S64x1024_S64x1024_S64x1024_S64x1024_S64x1024_S64x1024_S1024x1024_d0
    rfl 64 rfl _ e ?_ (ix2 h n) ?_ ?_
  · show (e.val * 64 + h.val) / 64 = e.val
    omega
  · show h.val = (e.val * 64 + h.val) % 64
    omega
  · intro b hb
    match b with
    | ⟨0, _⟩ => exact absurd rfl hb
    | ⟨1, _⟩ => rfl

/-- The output product: the sum over all rows of the stacked output projection. -/
theorem k_out (o : FVec Ideal S1024x1024 .bf16) (p : FVec Ideal S1024x768 .bf16) (n : Fin 1024) (c : Fin 768) :
    k0_pay1 o (k0_pay31 p) (constant S1024x768 .f32 0x00000000#32) (ix2 n c)
      = ∑ r, o (ix2 r n) * p (ix2 r c) := by
  pointwise [k0_pay1, k0_pay31]

end Output

end Cert.Proof
-- ==== Proof.KernelLayer.lean ====
/- The kernel's one block of results as a value of the blocks it loads (`kOut`), and that this value is the layer's, its
   projections read off the rows of the stacked weights, when the tokens and the projections are real. -/
module

public import proofs.«01_k».proof.Proof.Kernel
public import Idealize.ShloMosaic.Lib.Pointwise

@[expose] public section

set_option maxRecDepth 16384

noncomputable section

namespace Cert.Proof

open Idealize.ShloMosaic Cert.KernelIdeal Cert.KernelIdeal.Gen

variable (x : FVec Ideal S1024x768 .f32) (s : FVec Ideal S16x768 .f32) (g : FVec Ideal S16x1 .f32)
  (p : FVec Ideal S3072x768 .bf16) (o : FVec Ideal S1024x768 .bf16)

/-- The numbers of the experts, by rows. -/
abbrev kIota : IVec S16x1024 32 := iota .tc S16x1024 32 [0] iota_S16x1024_d0_w32

/-- The routing weights. -/
def kW : FVec Ideal S16x1024 .f32 :=
  k0_pay8 (k0_pay3 x s g) (k0_pay4 x s g) (k0_pay5 x s g) (k0_pay6 (F := Ideal) x s g) kIota
    (k0_pay7 (F := Ideal) x s g)

/-- The tokens under every expert's three projections. -/
def kY : FVec Ideal S3072x1024 .f32 := k0_pay9 (k0_pay2 x) p

/-- The first of the first two experts' parts of the queries. -/
def kQ₀ : FVec Ideal S64x1024 .f32 :=
  k0_pay10 (k0_pay2 x) (k0_pay3 x s g) (k0_pay4 x s g) (k0_pay5 x s g) (k0_pay6 (F := Ideal) x s g) kIota
    (k0_pay7 (F := Ideal) x s g) p

/-- The second of them. -/
def kQ₁ : FVec Ideal S64x1024 .f32 :=
  k0_pay11 (k0_pay2 x) (k0_pay3 x s g) (k0_pay4 x s g) (k0_pay5 x s g) (k0_pay6 (F := Ideal) x s g) kIota
    (k0_pay7 (F := Ideal) x s g) p

/-- The queries, already scaled. -/
def kQ : FVec Ideal S64x1024 .bf16 :=
  k0_pay14 (kW x s g) (kY x p) (k0_pay12 (kW x s g) (kY x p) (kQ₀ x s g p) (kQ₁ x s g p))
    (k0_pay13 (kW x s g) (kY x p))

/-- The keys. -/
def kK : FVec Ideal S64x1024 .bf16 :=
  k0_pay17 (kW x s g) (kY x p) (k0_pay15 (kW x s g) (kY x p)) (k0_pay16 (kW x s g))

/-- The values. -/
def kV : FVec Ideal S64x1024 .bf16 :=
  k0_pay20 (kW x s g) (kY x p) (k0_pay18 (kW x s g) (kY x p)) (k0_pay19 (kW x s g))

/-- The attention's result. -/
def kA : FVec Ideal S64x1024 .f32 :=
  k0_pay24 (kQ x s g p) (kK x s g p) (kV x s g p) k0_pay21 (k0_pay22 (kQ x s g p)) (k0_pay23 (kK x s g p))

/-- The block of results. -/
def kOut : FVec Ideal S1024x768 .f32 :=
  k0_pay1
    (k0_pay30 (kW x s g) (kA x s g p)
      (k0_pay25 (kW x s g) (kQ x s g p) (kK x s g p) (kV x s g p) k0_pay21 (k0_pay22 (kQ x s g p)) (k0_pay23 (kK x s g p)))
      (k0_pay26 (kW x s g) (kQ x s g p) (kK x s g p) (kV x s g p) k0_pay21 (k0_pay22 (kQ x s g p)) (k0_pay23 (kK x s g p)))
      (k0_pay27 (kW x s g) (kQ x s g p) (kK x s g p) (kV x s g p) k0_pay21 (k0_pay22 (kQ x s g p)) (k0_pay23 (kK x s g p)))
      (k0_pay28 (kW x s g) (kQ x s g p) (kK x s g p) (kV x s g p) k0_pay21 (k0_pay22 (kQ x s g p)) (k0_pay23 (kK x s g p)))
      (k0_pay29 (kW x s g)))
    (k0_pay31 o) (constant S1024x768 .f32 0x00000000#32)

/-- The experts' projections that stand in the stacked weights from row `base` on. -/
abbrev kProj (base : Nat) (hb : base + 1024 ≤ 3072) (e : Fin 16) (c : Fin 768) (h : Fin 64) : EReal :=
  p (ix2 (rowOf base hb e h) c)

/-- The experts' output projections. -/
abbrev kO (e : Fin 16) (h : Fin 64) (c : Fin 768) : EReal :=
  o (ix2 ⟨e.val * 64 + h.val, by have := e.isLt; have := h.isLt; omega⟩ c)

/-- The weights of the kernel's body are the layer's. -/
theorem kW_apply (e : Fin 16) (n : Fin 1024) : kW x s g (ix2 e n) = weight (kX x) (kS s) (kG g) n e :=
  k_weight x s g e n

/-- The projected rows of the kernel's body. -/
theorem kY_apply (r : Fin 3072) (n : Fin 1024) : kY x p (ix2 r n) = ∑ c, p (ix2 r c) * x (ix2 n c) := by
  unfold kY
  rw [k_rows]
  refine Finset.sum_congr rfl fun c _ => ?_
  pointwise [k0_pay2]

variable (hx : ∀ n c, IsReal (x (ix2 n c))) (hp : ∀ r c, IsReal (p (ix2 r c))) (ho : ∀ r c, IsReal (o (ix2 r c)))

include hx hp in
/-- The rows of one part mixed by the weights are the projections of the token. -/
theorem mixed_eq (base : Nat) (hb : base + 1024 ≤ 3072) (h : Fin 64) (n : Fin 1024) :
    mixed (kW x s g) (kY x p) base hb h n
      = proj (kX x) (weight (kX x) (kS s) (kG g)) (kProj p base hb) n h := by
  unfold mixed
  simp only [kW_apply, kY_apply]
  exact sum_weighted _ (fun e c => kProj p base hb e c h) _ (fun e => isReal_weight _ _ _ n e)
    (fun e c => hp _ c) (fun c => hx n c)

include hx hp in
/-- The kernel's queries in terms of the layer's projection. -/
theorem kQ_apply (h : Fin 64) (n : Fin 1024) :
    kQ x s g p (ix2 h n)
      = proj (kX x) (weight (kX x) (kS s) (kG g)) (kProj p 0 (by decide)) n h * eighth := by
  rw [← mixed_eq x s g p hx hp]
  refine k_q _ _ _ _ h n ?_ ?_
  · unfold kQ₀ kW kY
    pointwise [k0_pay10]
    refine congrArg (fun r => _ * k0_pay9 (F := Ideal) _ _ (ix2 r n)) (Fin.ext ?_)
    simp [rowOf]
  · unfold kQ₁ kW kY
    pointwise [k0_pay11]
    rfl

include hx hp in
/-- The kernel's keys in terms of the layer's projection. -/
theorem kK_apply (h : Fin 64) (n : Fin 1024) :
    kK x s g p (ix2 h n) = proj (kX x) (weight (kX x) (kS s) (kG g)) (kProj p 1024 (by decide)) n h := by
  rw [← mixed_eq x s g p hx hp]
  exact k_k _ _ h n

include hx hp in
/-- The kernel's values in terms of the layer's projection. -/
theorem kV_apply (h : Fin 64) (n : Fin 1024) :
    kV x s g p (ix2 h n) = proj (kX x) (weight (kX x) (kS s) (kG g)) (kProj p 2048 (by decide)) n h := by
  rw [← mixed_eq x s g p hx hp]
  exact k_v _ _ h n

include hx hp in
/-- The kernel's attention is the layer's. -/
theorem kA_apply (b : Fin 2) (t : Fin 512) (h : Fin 64) :
    kA x s g p (ix2 h (tok b t))
      = attend (proj (kX x) (weight (kX x) (kS s) (kG g)) (kProj p 0 (by decide)))
          (proj (kX x) (weight (kX x) (kS s) (kG g)) (kProj p 1024 (by decide)))
          (proj (kX x) (weight (kX x) (kS s) (kG g)) (kProj p 2048 (by decide))) b t h := by
  unfold kA
  rw [k_attend]
  unfold attend
  refine Finset.sum_congr rfl fun u _ => ?_
  rw [kV_apply x s g p hx hp, mul_comm]
  refine congrArg (· * _) (softmax_congr (fun j => ?_) u)
  unfold score
  have hw := isReal_weight (kX x) (kS s) (kG g)
  simp only [kQ_apply x s g p hx hp, kK_apply x s g p hx hp]
  rw [sum_scaled _ _ _ (fun h => isReal_proj hx hw (fun e c h => hp _ c) _ h)
    (fun h => isReal_proj hx hw (fun e c h => hp _ c) _ h) isReal_eighth]

include hx hp ho in
/-- The kernel's block of results is the layer's. -/
theorem kOut_apply (b : Fin 2) (t : Fin 512) (c : Fin 768) :
    kOut x s g p o (ix2 (tok b t) c)
      = layer (kX x) (kS s) (kG g) (kProj p 0 (by decide)) (kProj p 1024 (by decide)) (kProj p 2048 (by decide))
          (kO o) b t c := by
  have hw := isReal_weight (kX x) (kS s) (kG g)
  have hP : ∀ base hb n h, IsReal (proj (kX x) (weight (kX x) (kS s) (kG g)) (kProj p base hb) n h) :=
    fun base hb => isReal_proj hx hw fun e c h => hp _ c
  unfold kOut
  rw [k_out, Fin.sum_univ_tiles 16 64 rfl]
  unfold layer outProj
  rw [← sum_split (weight (kX x) (kS s) (kG g) (tok b t)) (fun e h => kO o e h c) _ (hw _) (fun e h => ho _ c)
    (fun h => isReal_attend (hP _ _) (hP _ _) (hP _ _) b t h)]
  refine Finset.sum_congr rfl fun e _ => Finset.sum_congr rfl fun h _ => ?_
  rw [← kA_apply x s g p hx hp, ← kW_apply, ← k_stack]
  rfl

end Cert.Proof
-- ==== Proof.KernelRun.lean ====
/- The idealized kernel's run: its result is the one block of results (`kOut`) over the arrays the host lines prepare,
   reshaped. -/
module

public import proofs.«01_k».proof.Proof.KernelLayer
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The grid's one point. -/
abbrev onePoint : Fin cfg0.N := ⟨0, by decide⟩

/-- Every window's block index at the one point is zero. -/
theorem idx_zero : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The blocks at the one point are the whole arrays. -/
theorem iblk0 (c : Dev nD) : iblk m c 0 onePoint = V m c main_call0_v0 := by
  blk_ext! [iblk, idx_zero onePoint]

/-- The second block that the kernel reads is the whole transposed similarity matrix. -/
theorem iblk1 (c : Dev nD) : iblk m c 1 onePoint = V m c main_call0_v11 := by
  blk_ext! [iblk, idx_zero onePoint]

/-- The third block that the kernel reads is the whole column of gates. -/
theorem iblk2 (c : Dev nD) : iblk m c 2 onePoint = V m c main_call0_v12 := by
  blk_ext! [iblk, idx_zero onePoint]

/-- The fourth block that the kernel reads is the whole stack of input projections. -/
theorem iblk3 (c : Dev nD) : iblk m c 3 onePoint = V m c main_call0_v8 := by
  blk_ext! [iblk, idx_zero onePoint]

/-- The fifth block that the kernel reads is the whole output projection. -/
theorem iblk4 (c : Dev nD) : iblk m c 4 onePoint = V m c main_call0_v10 := by
  blk_ext! [iblk, idx_zero onePoint]

/-- The region's one output array. -/
theorem final (c : Dev nD) : (dats m 0 c).arrAt 5 cfg0.N
    = kOut (V m c main_call0_v0) (V m c main_call0_v11) (V m c main_call0_v12) (V m c main_call0_v8)
        (V m c main_call0_v10) := by
  refine (dats m 0 c).arrAt_eq_of_after_last 5 onePoint (by decide +kernel) _ fun j => ?_
  blk_simp
  rw [after0_5, iblk0, iblk1, iblk2, iblk3, iblk4]
  unfold_out out0_5
  frame_out
  rfl

/-! ## The arrays the host lines prepare -/

/-- One projection's rows, before the three are joined. -/
def stackOf (x : FVec Ideal S16x768x64 .f32) : FVec Ideal S1024x768 .f32 :=
  shapeCast S1024x768 (transpose S16x64x768 [0, 2, 1] x transposes_S16x768x64_S16x64x768_0_2_1)
    shapeCasts_S16x64x768_S1024x768

/-- The three projections' rows, one under another. -/
def stack (q k v : FVec Ideal S16x768x64 .f32) : FVec Ideal S3072x768 .bf16 :=
  truncf (F := Ideal) .bf16 (concatenate S3072x768 0 [⟨S1024x768, stackOf q⟩, ⟨S1024x768, stackOf k⟩, ⟨S1024x768, stackOf v⟩]
    concatenates_S1024x768_S1024x768_S1024x768_S3072x768_d0) bitsLt_bf16_f32

/-- The tokens as rows. -/
def tokensOf (x : FVec Ideal S2x512x768 .f32) : FVec Ideal S1024x768 .f32 :=
  shapeCast S1024x768 x shapeCasts_S2x512x768_S1024x768

/-- The similarity matrix, transposed. -/
def simOf (x : FVec Ideal S768x16 .f32) : FVec Ideal S16x768 .f32 :=
  transpose S16x768 [1, 0] x transposes_S768x16_S16x768_1_0

/-- The gates as a column. -/
def gatesOf (x : FVec Ideal S16 .f32) : FVec Ideal S16x1 .f32 := shapeCast S16x1 x shapeCasts_S16_S16x1

/-- The output projections as rows. -/
def outOf (x : FVec Ideal S16x64x768 .f32) : FVec Ideal S1024x768 .bf16 :=
  truncf (F := Ideal) .bf16 (shapeCast S1024x768 x shapeCasts_S16x64x768_S1024x768) bitsLt_bf16_f32

/-- The flattened hidden states at a token. -/
theorem tokensOf_apply (x : FVec Ideal S2x512x768 .f32) (b : Fin 2) (s : Fin 512) (d : Fin 768) :
    tokensOf x (ix2 (tok b s) d) = x (ix3 b s d) := by
  unfold tok
  pointwise! [tokensOf]

/-- The transposed similarity matrix at an expert and a channel. -/
theorem simOf_apply (x : FVec Ideal S768x16 .f32) (e : Fin 16) (d : Fin 768) : simOf x (ix2 e d) = x (ix2 d e) := by
  pointwise! [simOf]

/-- The gates as a column. -/
theorem gatesOf_apply (x : FVec Ideal S16 .f32) (e : Fin 16) : gatesOf x (ix2 e 0) = x (ix1 e) := by
  pointwise! [gatesOf]

/-- The output projection with experts and heads' dimensions as one axis of rows. -/
theorem outOf_apply (x : FVec Ideal S16x64x768 .f32) (e : Fin 16) (h : Fin 64) (d : Fin 768) :
    outOf x (ix2 ⟨e.val * 64 + h.val, by have := e.isLt; have := h.isLt; omega⟩ d) = x (ix3 e h d) := by
  pointwise! [outOf]

/-- One input projection, transposed and flattened, at an expert's row. -/
theorem stackOf_apply (x : FVec Ideal S16x768x64 .f32) (e : Fin 16) (h : Fin 64) (d : Fin 768)
    (hr : e.val * 64 + h.val < 1024) : stackOf x (ix2 ⟨e.val * 64 + h.val, hr⟩ d) = x (ix3 e d h) := by
  pointwise! [stackOf]

/-- Row `e * 64 + h` of each part of the stack. -/
theorem stack_apply (q k v : FVec Ideal S16x768x64 .f32) (e : Fin 16) (h : Fin 64) (d : Fin 768) :
    stack q k v (ix2 (rowOf 0 (by decide) e h) d) = q (ix3 e d h)
      ∧ stack q k v (ix2 (rowOf 1024 (by decide) e h) d) = k (ix3 e d h)
      ∧ stack q k v (ix2 (rowOf 2048 (by decide) e h) d) = v (ix3 e d h) := by
  have he := e.isLt
  have hh := h.isLt
  rw [← stackOf_apply q e h d (by omega), ← stackOf_apply k e h d (by omega), ← stackOf_apply v e h d (by omega)]
  unfold rowOf
  refine ⟨?_, ?_, ?_⟩
  · pointwise! [stack]
    rw [dif_pos (by omega)]
    exact congrArg (fun r => stackOf q (ix2 r d)) (Fin.ext (by simp only; omega))
  · pointwise! [stack]
    rw [dif_neg (by omega), dif_pos (by omega)]
    exact congrArg (fun r => stackOf k (ix2 r d)) (Fin.ext (by simp only; omega))
  · pointwise! [stack]
    rw [dif_neg (by omega), dif_neg (by omega)]
    exact congrArg (fun r => stackOf v (ix2 r d)) (Fin.ext (by simp only; omega))

/-! ## The run -/

/-- What the kernel leaves in its result, of the argument arrays. -/
def kernelResult (x : FVec Ideal S2x512x768 .f32) (s : FVec Ideal S768x16 .f32) (g : FVec Ideal S16 .f32)
    (q k v : FVec Ideal S16x768x64 .f32) (o : FVec Ideal S16x64x768 .f32) : FVec Ideal S2x512x768 .f32 :=
  shapeCast S2x512x768 (kOut (tokensOf x) (simOf s) (gatesOf g) (stack q k v) (outOf o))
    shapeCasts_S1024x768_S2x512x768

/-- The trailing reshape reads the region's array. -/
theorem tail_result (c : Dev nD) :
    Pipeline.afterTail₀ cfgs (dats m) 0 (V0 m) [hostOps1] c main_v0
      = kernelResult (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  have h := Pipeline.withArrays_arr (cfgs 0).spec launch0.win.arr_inj c (V0 m c)
    (fun w => (dats m 0 c).arrAt w (cfgs 0).N) 5
  have h0 : V m c main_call0_v0 = tokensOf (m ((c : Thread nD τ).loc main_arg0)) := rfl
  have h1 : V m c main_call0_v11 = simOf (m ((c : Thread nD τ).loc main_arg1)) := rfl
  have h2 : V m c main_call0_v12 = gatesOf (m ((c : Thread nD τ).loc main_arg2)) := rfl
  have h3 : V m c main_call0_v8 = stack (m ((c : Thread nD τ).loc main_arg3)) (m ((c : Thread nD τ).loc main_arg4))
      (m ((c : Thread nD τ).loc main_arg5)) := rfl
  have h4 : V m c main_call0_v10 = outOf (m ((c : Thread nD τ).loc main_arg6)) := rfl
  have hf := final m c
  rw [h0, h1, h2, h3, h4] at hf
  unfold Pipeline.afterTail₀ kernelResult
  rw [← hf, ← h]
  rfl

/-- Every run of the idealized kernel ends with its result in `main_v0` and its arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v0)
        = kernelResult (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨((h.1 c).2 main_v0 (Pipeline.mem_restRefs_of main_v0 (by decide) (by decide))).trans (tail_result m c),
      h.2 c⟩)
    (θ_run_and (run_main m ρ) (unchanged m ρ))

/-! ## The result at an index -/

variable (x : FVec Ideal S2x512x768 .f32) (s : FVec Ideal S768x16 .f32) (g : FVec Ideal S16 .f32)
  (q k v : FVec Ideal S16x768x64 .f32) (o : FVec Ideal S16x64x768 .f32)

/-- Token `n` of the hidden states: batch `n / 512`, position `n % 512`. -/
abbrev hidden (x : FVec Ideal S2x512x768 .f32) (n : Fin 1024) (c : Fin 768) : EReal :=
  x (ix3 ⟨n.val / 512, by have := n.isLt; omega⟩ ⟨n.val % 512, by omega⟩ c)

/-- The flattened hidden states are the tokens' vectors. -/
theorem tokensOf_hidden (n : Fin 1024) (c : Fin 768) : tokensOf x (ix2 n c) = hidden x n c := by
  refine Eq.trans ?_ (tokensOf_apply x ⟨n.val / 512, by have := n.isLt; omega⟩ ⟨n.val % 512, by omega⟩ c)
  refine congrArg (fun n => tokensOf x (ix2 n c)) (Fin.ext ?_)
  simp only [tok]
  omega

/-- The layer over the argument arrays. -/
def smha (b : Fin 2) (t : Fin 512) (c : Fin 768) : EReal :=
  layer (hidden x) (fun c e => s (ix2 c e)) (fun e => g (ix1 e)) (fun e c h => q (ix3 e c h))
    (fun e c h => k (ix3 e c h)) (fun e c h => v (ix3 e c h)) (fun e h c => o (ix3 e h c)) b t c

/-- The kernel's result is the layer's, when the tokens and the weights are real. -/
theorem kernelResult_apply (hx : ∀ i, IsReal (x i)) (hq : ∀ i, IsReal (q i)) (hk : ∀ i, IsReal (k i))
    (hv : ∀ i, IsReal (v i)) (ho : ∀ i, IsReal (o i)) (b : Fin 2) (t : Fin 512) (c : Fin 768) :
    kernelResult x s g q k v o (ix3 b t c) = smha x s g q k v o b t c := by
  have hX : kX (tokensOf x) = hidden x := funext fun n => funext fun c => tokensOf_hidden x n c
  have hS : kS (simOf s) = fun c e => s (ix2 c e) := funext fun c => funext fun e => simOf_apply s e c
  have hG : kG (gatesOf g) = fun e => g (ix1 e) := funext fun e => gatesOf_apply g e
  have hQ : kProj (stack q k v) 0 (by decide) = fun e c h => q (ix3 e c h) :=
    funext fun e => funext fun c => funext fun h => (stack_apply q k v e h c).1
  have hK : kProj (stack q k v) 1024 (by decide) = fun e c h => k (ix3 e c h) :=
    funext fun e => funext fun c => funext fun h => (stack_apply q k v e h c).2.1
  have hV : kProj (stack q k v) 2048 (by decide) = fun e c h => v (ix3 e c h) :=
    funext fun e => funext fun c => funext fun h => (stack_apply q k v e h c).2.2
  have hO : kO (outOf o) = fun e h c => o (ix3 e h c) :=
    funext fun e => funext fun h => funext fun c => outOf_apply o e h c
  have hp : ∀ r c, IsReal (stack q k v (ix2 r c)) := fun r c => by
    have key : ∀ base hb (r : Fin 3072) (p : FVec Ideal S16x768x64 .f32), (∀ i, IsReal (p i)) →
        (∀ e h, stack q k v (ix2 (rowOf base hb e h) c) = p (ix3 e c h)) → base ≤ r.val → r.val < base + 1024 →
        IsReal (stack q k v (ix2 r c)) := fun base hb r p hp hst h1 h2 => by
      have hr : r = rowOf base hb ⟨(r.val - base) / 64, by omega⟩ ⟨(r.val - base) % 64, by omega⟩ :=
        Fin.ext (by simp only [rowOf]; omega)
      rw [hr, hst]
      exact hp _
    have hr := r.isLt
    rcases lt_or_ge r.val 1024 with h1 | h1
    · exact key 0 (by decide) r q hq (fun e h => (stack_apply q k v e h c).1) (by omega) (by omega)
    rcases lt_or_ge r.val 2048 with h2 | h2
    · exact key 1024 (by decide) r k hk (fun e h => (stack_apply q k v e h c).2.1) (by omega) (by omega)
    · exact key 2048 (by decide) r v hv (fun e h => (stack_apply q k v e h c).2.2) (by omega) (by omega)
  have ho' : ∀ r c, IsReal (outOf o (ix2 r c)) := fun r c => by
    have hr := r.isLt
    have h := outOf_apply o ⟨r.val / 64, by omega⟩ ⟨r.val % 64, by omega⟩ c
    have he : (⟨r.val / 64 * 64 + r.val % 64, by omega⟩ : Fin 1024) = r := Fin.ext (by simp only; omega)
    simp only [he] at h
    rw [h]
    exact ho _
  have hr : kernelResult x s g q k v o (ix3 b t c)
      = kOut (tokensOf x) (simOf s) (gatesOf g) (stack q k v) (outOf o) (ix2 (tok b t) c) := by
    unfold tok
    pointwise! [kernelResult]
  rw [hr, kOut_apply _ _ _ _ _ (fun n c => by rw [tokensOf_hidden]; exact hx _) hp ho', hX, hS, hG, hQ, hK, hV, hO]
  rfl

end Cert.Proof
-- ==== Proof.Reference.lean ====
/- The reference program's values at an index: routing, projections, attention and output, up to its result, which is
   the layer over its argument arrays. -/
module

public import proofs.«01_k».proof.Proof.Spec
public import proofs.«01_k».proof.Proof.Gen.ReferenceIdeal.Read
public import Idealize.ShloMosaic.Lib.Pointwise
public import Idealize.ShloMosaic.Lib.Routing.OpsSet
public import Idealize.ShloMosaic.Lib.Routing.OpsPair

@[expose] public section

set_option maxRecDepth 16384

noncomputable section

namespace Cert.Proof

open Idealize.ShloMosaic Cert.ReferenceIdeal Cert.ReferenceIdeal.Gen Cert.ReferenceIdeal.Read

variable (x : FVec Ideal S2x512x768 .f32) (s : FVec Ideal S768x16 .f32) (g : FVec Ideal S16 .f32)

/-- Token `n` of the hidden states: batch `n / 512`, position `n % 512`. -/
abbrev rX (n : Fin 1024) (c : Fin 768) : EReal :=
  x (ix3 ⟨n.val / 512, by have := n.isLt; omega⟩ ⟨n.val % 512, by omega⟩ c)

/-- The similarity matrix by expert. -/
abbrev rS (c : Fin 768) (e : Fin 16) : EReal := s (ix2 c e)

/-- The gates. -/
abbrev rG (e : Fin 16) : EReal := g (ix1 e)

/-- The reference's flattened hidden states. -/
theorem r_flat (n : Fin 1024) (c : Fin 768) : val_main_v0 (F := Ideal) x (ix2 n c) = rX x n c := by
  pointwise! [val_main_v0]

/-- The reference's tokens, each divided by its norm. -/
theorem r_unit (n : Fin 1024) (c : Fin 768) : val_main_v4 (F := Ideal) x (ix2 n c) = unitEntry (rX x n) c := by
  pointwise [val_main_v4, val_main_v3, val_main_v2, val_main_v1, val_main_call1_v1, val_main_call1_v0, val_main_cst,
    val_main_call0_v2, val_main_call0_v1, val_main_call0_v0, val_main_call0_cst]
  simp only [r_flat]
  unfold unitEntry
  rw [max_comm]
  rfl

/-- The reference's expert vectors, each divided by its norm. -/
theorem r_sim (c : Fin 768) (e : Fin 16) : val_main_v8 (F := Ideal) s (ix2 c e) = unitEntry (fun c => rS s c e) c := by
  pointwise [val_main_v8, val_main_v7, val_main_v6, val_main_v5, val_main_call3_v1, val_main_call3_v0, val_main_cst_0,
    val_main_call2_v2, val_main_call2_v1, val_main_call2_v0, val_main_call2_cst]
  unfold unitEntry
  rw [max_comm]
  rfl

/-- The reference's gates under the logistic function. -/
theorem r_gate (e : Fin 16) : val_main_v15 (F := Ideal) g (ix1 e) = Ideal.logistic (g (ix1 e)) := by
  pointwise [val_main_v15, val_main_v14, val_main_v13, val_main_v12, val_main_v11, val_main_v10, val_main_cst_1, val_main_cst_2]
  rfl

/-- The reference's logits are the routing's. -/
theorem r_logit (n : Fin 1024) (e : Fin 16) :
    val_main_v18 (F := Ideal) x s g (ix2 n e) = logit (rX x) (rS s) (rG g) n e := by
  pointwise [val_main_v18, val_main_v17, val_main_v16, val_main_v9]
  simp only [r_unit, r_sim, r_gate]
  rfl

/-- The logits of a token. -/
abbrev rL (n : Fin 1024) : Fin 16 → EReal := logit (rX x) (rS s) (rG g) n

/-- The positive parts of the reference's logits. -/
theorem r_relu (n : Fin 1024) (e : Fin 16) : val_main_v19 (F := Ideal) x s g (ix2 n e) = max (rL x s g n e) 0 := by
  pointwise [val_main_v19, val_main_call4_v0, val_main_call4_cst]
  rw [r_logit]

/-- The reference's indicator of a positive logit. -/
theorem r_active (n : Fin 1024) (e : Fin 16) : val_main_v22 (F := Ideal) x s g (ix2 n e) = active (rL x s g n) e := by
  pointwise [val_main_v22, val_main_v21, val_main_v20, val_main_cst_3]
  rw [r_relu, uitofp_ofBool, active]
  simp only [decide_eq_true_eq]

open Classical in
/-- Whether a token has no positive logit. -/
theorem r_idle (n : Fin 1024) : val_main_v25 (F := Ideal) x s g (ix1 n) = BitVec.ofBool (decide (Idle (rL x s g n))) := by
  pointwise [val_main_v25, val_main_v24, val_main_v23, val_main_cst_4, val_main_cst_5]
  simp only [r_active]
  congr 1
  exact decide_eq_decide.2 Iff.rfl

/-- A slice of the first two columns. -/
theorem slice_two (y : IVec S1024x16 32) (n : Fin 1024) (k : Fin 2) :
    extractStridedSlice S1024x2 (fun _ => 0) y sliceFits_S1024x16_S1024x2 (ix2 n k)
      = y (ix2 n (k.castLE (by decide : 2 ≤ 16))) := by
  pointwise!

/-- Moving an index along the second axis changes its column and keeps its row. -/
theorem along_two (n : Fin 1024) (e : Fin 16) (h : 1 < S1024x16.rank) (k : Fin (S1024x16.size ⟨1, h⟩)) :
    Shape.Idx.along (s := S1024x16) (ix2 n e) ⟨1, h⟩ k = ix2 n (show Fin 16 from k) := by
  funext a
  match a with
  | ⟨0, _⟩ => rfl
  | ⟨1, _⟩ => rfl

/-- Whatever the sort, the column it moves an index to is the sort of that row at the index's column. -/
theorem along_sorted (srt : (Fin 16 → Fin 16 → Bool) → Fin 16 → Fin 16) (P : EReal → EReal → Bool)
    (y : S1024x16.Idx → EReal) (n : Fin 1024) (e : Fin 16) (h : 1 < S1024x16.rank) :
    @Eq (Fin 16) (Shape.Idx.along (s := S1024x16) (ix2 n e) ⟨1, h⟩
        (srt (fun a b => P (y (Shape.Idx.along (s := S1024x16) (ix2 n e) ⟨1, h⟩ a))
          (y (Shape.Idx.along (s := S1024x16) (ix2 n e) ⟨1, h⟩ b))) (ix2 n e ⟨1, h⟩)) ⟨1, h⟩)
      (srt (fun a b => P (y (ix2 n a)) (y (ix2 n b))) e) := by
  have hR : (fun a b : Fin 16 => P (y (Shape.Idx.along (s := S1024x16) (ix2 n e) ⟨1, h⟩ a))
      (y (Shape.Idx.along (s := S1024x16) (ix2 n e) ⟨1, h⟩ b))) = fun a b => P (y (ix2 n a)) (y (ix2 n b)) := by
    funext a b
    exact congrArg₂ P (congrArg y (along_two n e h a)) (congrArg y (along_two n e h b))
  rw [hR]
  rfl

seal sortedFrom in
/-- The second result of the top-two selection holds the positions of a row's two leading entries. -/
theorem topK_indices (y : FVec Ideal S1024x16 .f32) (n : Fin 1024) (k : Fin 2) :
    (Host.topK S1024x2 1 (FloatOps.cmpfTotal (F := Ideal) (φ := .f32) .gt) y sliceFits_S1024x16_S1024x2).2 (ix2 n k)
      = BitVec.ofNat 32 (ranked (fun e => y (ix2 n e)) (k.castLE (by decide))).val := by
  unfold Host.topK
  dsimp only
  rw [slice_two]
  unfold Host.sort2
  rw [dif_pos (by decide)]
  dsimp only
  rw [dif_pos (by decide)]
  unfold iotaInDim ranked
  have key := along_sorted sortedFrom (fun a b => FloatOps.cmpfTotal (F := Ideal) (φ := .f32) .gt a b == 1#1) y n
    (k.castLE (by decide)) (by decide)
  exact congrArg (fun p : Fin 16 => BitVec.ofNat 32 p.val) key

/-- The experts the reference's selection returns for a token. -/
theorem r_indices (n : Fin 1024) (k : Fin 2) : val_main_indices (F := Ideal) x s g (ix2 n k)
    = BitVec.ofNat 32 (ranked (rL x s g n) (k.castLE (by decide))).val := by
  have h : rL x s g n = fun e => val_main_v18 (F := Ideal) x s g (ix2 n e) := funext fun e => (r_logit x s g n e).symm
  rw [h]
  exact topK_indices _ n k

/-- The pairs the reference scatters at: the token's own row, and an expert that leads it. -/
theorem r_columns (n : Fin 1024) (k : Fin 2) :
    val_main_v42 (F := Ideal) x s g (ix3 n k 0) = BitVec.ofNat 32 n.val
    ∧ val_main_v42 (F := Ideal) x s g (ix3 n k 1) = BitVec.ofNat 32 (ranked (rL x s g n) (k.castLE (by decide))).val := by
  constructor
  · pointwise [val_main_v42, val_main_v40, val_main_v39, val_main_v33, val_main_v32, val_main_v31, val_main_c_7,
      val_main_v30, val_main_v29, val_main_c, val_main_v28, val_main_v27]
    exact Routing.wrap_of_lt _ _ (by have := n.isLt; rw [BitVec.toNat_ofNat]; omega)
  · pointwise [val_main_v42, val_main_v41, val_main_v38, val_main_v37, val_main_v36, val_main_c_9, val_main_v35,
      val_main_v34, val_main_c_8]
    rw [r_indices]
    exact Routing.wrap_of_lt _ _ (by
      have := (ranked (rL x s g n) (k.castLE (by decide))).isLt; rw [BitVec.toNat_ofNat]; omega)

/-- A small natural number is its own signed reading. -/
theorem toInt_ofNat_lt (a : Nat) (h : a < 2 ^ 31) : (BitVec.ofNat 32 a).toInt = a := by
  rw [BitVec.toInt_ofNat', Int.bmod_eq_of_le] <;> omega

/-- Which entry of the mask a scattered one lands on. -/
theorem r_lands (n r : Fin 1024) (k : Fin 2) (e : Fin 16) :
    scatter_S1024x16_S1024x2x2_S1024x2_n_01_01_2.resultIdx? (ix2 n k) (val_main_v42 (F := Ideal) x s g) = some (ix2 r e)
      ↔ n = r ∧ ranked (rL x s g n) (k.castLE (by decide)) = e := by
  have h := Routing.scatter_lands2 scatter_S1024x16_S1024x2x2_S1024x2_n_01_01_2 rfl rfl rfl
    (val_main_v42 (F := Ideal) x s g) n k r e
  rw [← ix2_eq_valueIdx, ← ix2_eq_valueIdx, ← ix3_eq_valueIdx, ← ix3_eq_valueIdx, (r_columns x s g n k).1,
    (r_columns x s g n k).2, toInt_ofNat_lt _ (by have := n.isLt; omega),
    toInt_ofNat_lt _ (by have := (ranked (rL x s g n) (k.castLE (by decide))).isLt; omega)] at h
  refine h.trans (and_congr ?_ ?_)
  · rw [Fin.ext_iff]; omega
  · rw [Fin.ext_iff]; omega

/-- The reference's fallback mask marks the two leading experts of each token. -/
theorem r_topTwo (n : Fin 1024) (e : Fin 16) :
    val_main_v44 (F := Ideal) x s g (ix2 n e) = topTwo (rL x s g n) e := by
  have h0 : val_main_v26 (F := Ideal) (ix2 n e) = 0 := by pointwise [val_main_v26, val_main_cst_6]
  have h1 : ∀ j, val_main_v43 (F := Ideal) j = 1 := fun j => by
    rw [← ix2_eta j]
    pointwise [val_main_v43, val_main_cst_10]
  unfold val_main_v44 topTwo
  split
  · next h =>
    obtain ⟨k, hk⟩ : ∃ k : Fin 2, ranked (rL x s g n) (k.castLE (by decide)) = e := by
      rcases h with h | h
      · exact ⟨0, h.symm⟩
      · exact ⟨1, h.symm⟩
    exact Routing.scatter_set_hit _ _ _ _ _ 1 (fun j _ => h1 j) (ix2 n k) ((r_lands x s g n n k e).2 ⟨rfl, hk⟩)
  · next h =>
    refine (Routing.scatter_set_miss _ _ _ _ _ fun j hj => h ?_).trans h0
    obtain ⟨a, k, rfl⟩ : ∃ (a : Fin 1024) (k : Fin 2), j = ix2 a k := ⟨j 0, j 1, (ix2_eta j).symm⟩
    obtain ⟨rfl, hk⟩ := (r_lands x s g a n k e).1 hj
    obtain rfl | rfl : k = 0 ∨ k = 1 := (by decide : ∀ k : Fin 2, k = 0 ∨ k = 1) k
    · exact Or.inl hk.symm
    · exact Or.inr hk.symm

open Classical in
/-- The reference's mask is the routing's. -/
theorem r_mask (n : Fin 1024) (e : Fin 16) : val_main_v46 (F := Ideal) x s g (ix2 n e) = mask (rL x s g n) e := by
  pointwise [val_main_v46, val_main_call5_v0, val_main_v45]
  rw [r_idle, r_topTwo, r_active, select_ofBool, mask]
  simp only [decide_eq_true_eq]

/-- The reference's masked logits are the routing's. -/
theorem r_masked (n : Fin 1024) (e : Fin 16) : val_main_v50 (F := Ideal) x s g (ix2 n e) = masked (rL x s g n) e := by
  pointwise [val_main_v50, val_main_v49, val_main_v48, val_main_v47, val_main_cst_11, val_main_cst_12]
  rw [r_mask, r_relu]
  rfl

/-- The softmax of a token's masked logits. -/
theorem r_softmax (n : Fin 1024) (e : Fin 16) :
    val_main_v61 (F := Ideal) x s g (ix2 n e) = softmax (masked (rL x s g n)) e := by
  pointwise [val_main_v61, val_main_v60, val_main_v59, val_main_v58, val_main_cst_15, val_main_v57, val_main_v56,
    val_main_v55, val_main_v54, val_main_v53, val_main_v52, val_main_cst_14, val_main_v51, val_main_cst_13]
  simp only [r_masked, ofBits_neg_inf, bot_le, max_eq_right]
  unfold softmax
  rw [ofBits_neg_inf]

/-- The reference's weights are the layer's. -/
theorem r_weight (n : Fin 1024) (e : Fin 16) :
    val_main_v65 (F := Ideal) x s g (ix2 n e) = weight (rX x) (rS s) (rG g) n e := by
  pointwise [val_main_v65, val_main_v64, val_main_v63, val_main_v62, val_main_cst_16]
  rw [r_softmax, r_mask, uitofp_ofBool]
  unfold weight route
  refine congrArg _ ?_
  rcases mask_zero_or_one (rL x s g n) e with h | h <;> rw [h] <;> simp

end Cert.Proof
-- ==== Proof.ReferenceLayer.lean ====
/- The reference program's projections, attention and output at an index: its result is the layer over its argument
   arrays. -/
module

public import proofs.«01_k».proof.Proof.Reference

@[expose] public section

set_option maxRecDepth 16384

noncomputable section

namespace Cert.Proof

open Idealize.ShloMosaic Cert.ReferenceIdeal Cert.ReferenceIdeal.Gen Cert.ReferenceIdeal.Read

variable (x : FVec Ideal S2x512x768 .f32) (s : FVec Ideal S768x16 .f32) (g : FVec Ideal S16 .f32)
  (q k v : FVec Ideal S16x768x64 .f32) (o : FVec Ideal S16x64x768 .f32)

/-- An input projection by expert. -/
abbrev rP (p : FVec Ideal S16x768x64 .f32) (e : Fin 16) (c : Fin 768) (h : Fin 64) : EReal := p (ix3 e c h)

/-- The output projection by expert. -/
abbrev rO (e : Fin 16) (h : Fin 64) (c : Fin 768) : EReal := o (ix3 e h c)

/-- A token's vector under an input projection. -/
abbrev rProj (p : FVec Ideal S16x768x64 .f32) (n : Fin 1024) (h : Fin 64) : EReal :=
  proj (rX x) (weight (rX x) (rS s) (rG g)) (rP p) n h

/-- A token's vector under a projection mixed by the token's weights. -/
theorem r_projected (p : FVec Ideal S16x768x64 .f32) (n : Fin 1024) (h : Fin 64) :
    val_main_v77 (F := Ideal) x s g p (ix2 n h) = rProj x s g p n h := by
  pointwise [val_main_v77, val_main_v66]
  simp only [r_flat, r_weight]
  rfl

/-- The three projections are one function of the projection array. -/
theorem r_key (p : FVec Ideal S16x768x64 .f32) : val_main_v79 (F := Ideal) x s g p = val_main_v77 (F := Ideal) x s g p := rfl

/-- The values are the same function of their projection array as the queries. -/
theorem r_value (p : FVec Ideal S16x768x64 .f32) : val_main_v81 (F := Ideal) x s g p = val_main_v77 (F := Ideal) x s g p := rfl

/-- The weights the output projection is mixed by are the routing's. -/
theorem r_weightOut : val_main_v106 (F := Ideal) x s g = val_main_v65 (F := Ideal) x s g := rfl

/-- The reference's queries by sequence and place. -/
theorem r_queries (b : Fin 2) (t : Fin 512) (h : Fin 64) :
    val_main_v78 (F := Ideal) x s g q (ix3 b t h) = rProj x s g q (tok b t) h := by
  rw [← r_projected]
  unfold tok
  pointwise! [val_main_v78]

/-- The reference's keys by sequence and place. -/
theorem r_keys (b : Fin 2) (t : Fin 512) (h : Fin 64) :
    val_main_v80 (F := Ideal) x s g k (ix3 b t h) = rProj x s g k (tok b t) h := by
  rw [← r_projected, ← r_key]
  unfold tok
  pointwise! [val_main_v80]

/-- The reference's values by sequence and place. -/
theorem r_values (b : Fin 2) (t : Fin 512) (h : Fin 64) :
    val_main_v82 (F := Ideal) x s g v (ix3 b t h) = rProj x s g v (tok b t) h := by
  rw [← r_projected, ← r_value]
  unfold tok
  pointwise! [val_main_v82]

/-- The lower triangle of ones: the key's place is not past the query's. -/
theorem r_causal (t t' : Fin 512) :
    val_main_v87 (F := Ideal) (ix2 t t') = BitVec.ofBool (decide (t' ≤ t)) := by
  pointwise [val_main_v87, val_main_v86, val_main_c_20, val_main_call7_v5, val_main_call7_c_0, val_main_call7_v4,
    val_main_call7_v3, val_main_call7_v2, val_main_call7_v1, val_main_call7_v0, val_main_call7_c]
  have h : ∀ a : Fin 512, (BitVec.ofNat 32 a.val).toInt = a.val := by decide +kernel
  have h0 : IntOp.addi (BitVec.ofNat 32 t.val) 0#32 = BitVec.ofNat 32 t.val := BitVec.add_zero _
  have hc : IntOp.cmpi .sge (BitVec.ofNat 32 t.val) (BitVec.ofNat 32 t'.val) = BitVec.ofBool (decide (t' ≤ t)) := by
    unfold IntOp.cmpi
    dsimp only
    rw [BitVec.sle, h, h]
    exact congrArg BitVec.ofBool (decide_eq_decide.mpr Int.ofNat_le)
  rw [h0, hc]
  cases decide (t' ≤ t) <;> rfl

/-- The reference's masked scores are the layer's. -/
theorem r_score (b : Fin 2) (t t' : Fin 512) : val_main_v90 (F := Ideal) x s g q k (ix3 b t t')
    = score (rProj x s g q) (rProj x s g k) b t t' := by
  pointwise [val_main_v90, val_main_v89, val_main_cst_21, val_main_call8_v0, val_main_v88, val_main_v85, val_main_v84,
    val_main_cst_19, val_main_v83]
  rw [r_causal, select_ofBool]
  simp only [r_queries, r_keys, decide_eq_true_eq]
  rfl

/-- The softmax of the reference's scores. -/
theorem r_attention (b : Fin 2) (t t' : Fin 512) : val_main_v101 (F := Ideal) x s g q k (ix3 b t t')
    = softmax (score (rProj x s g q) (rProj x s g k) b t) t' := by
  pointwise [val_main_v101, val_main_v100, val_main_v99, val_main_v98, val_main_cst_24, val_main_v97, val_main_v96,
    val_main_v95, val_main_v94, val_main_v93, val_main_v92, val_main_cst_23, val_main_v91, val_main_cst_22]
  simp only [r_score, ofBits_neg_inf, bot_le, max_eq_right]
  unfold softmax
  rw [ofBits_neg_inf]

/-- The reference's attention is the layer's. -/
theorem r_attend (b : Fin 2) (t : Fin 512) (h : Fin 64) : val_main_v102 (F := Ideal) x s g q k v (ix3 b t h)
    = attend (rProj x s g q) (rProj x s g k) (rProj x s g v) b t h := by
  pointwise [val_main_v102]
  simp only [r_attention, r_values]
  rfl

/-- The attention's result with the sequences' tokens numbered through. -/
theorem r_regrouped (n : Fin 1024) (h : Fin 64) : val_main_v108 (F := Ideal) x s g q k v (ix2 n h)
    = val_main_v102 (F := Ideal) x s g q k v
        (ix3 ⟨n.val / 512, by have := n.isLt; omega⟩ ⟨n.val % 512, by omega⟩ h) := by
  pointwise! [val_main_v108]

/-- The attention's result at the token of a sequence and a place. -/
theorem r_attended (b : Fin 2) (t : Fin 512) (h : Fin 64) : val_main_v108 (F := Ideal) x s g q k v (ix2 (tok b t) h)
    = attend (rProj x s g q) (rProj x s g k) (rProj x s g v) b t h := by
  rw [← r_attend, r_regrouped]
  refine congrArg₂ (fun b t => val_main_v102 (F := Ideal) x s g q k v (ix3 b t h)) (Fin.ext ?_) (Fin.ext ?_)
  · have := t.isLt
    simp only [tok]
    omega
  · have := t.isLt
    simp only [tok]
    omega

/-- The reference's result at an index is the layer's. -/
theorem r_result (b : Fin 2) (t : Fin 512) (c : Fin 768) : val_main_v110 (F := Ideal) x s g q k v o (ix3 b t c)
    = layer (rX x) (rS s) (rG g) (rP q) (rP k) (rP v) (rO o) b t c := by
  have h : val_main_v110 (F := Ideal) x s g q k v o (ix3 b t c) = val_main_v109 (F := Ideal) x s g q k v o (ix2 (tok b t) c) := by
    unfold tok
    pointwise! [val_main_v110]
  rw [h]
  pointwise [val_main_v109, val_main_v107]
  simp only [r_attended, r_weightOut, r_weight]
  rfl

end Cert.Proof
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_weights
public import proofs.«01_k».proof.Proof.KernelRun
public import proofs.«01_k».proof.Proof.ReferenceLayer
public import Idealize.ShloMosaic.Lib.Claim
public import Idealize.ShloMosaic.Init

@[expose] public section

set_option maxRecDepth 16384

noncomputable section

namespace Cert.Proof

open Idealize.ShloMosaic Idealize.SL.Sem

/-- The idealized reference runs from any memory, its arguments end unchanged, and it declares no semaphore. -/
theorem frame_reference : Cert.quiescent_ReferenceIdeal := fun m g _ =>
  (θ_run (Cert.ReferenceIdeal.defs (F := Ideal)) _ _).mono
    (fun r h => And.intro (fun c => (h c).2) (sem_eq_zero_of_no_sems (by decide) r.2))
    (Cert.ReferenceIdeal.Value.run (F := Ideal) m g)

/-- An entry whose magnitude is below infinity is a real number. -/
theorem isReal_of_abs_lt (a : EReal)
    (h : FloatOps.cmpf (F := Ideal) (φ := .f32) .olt (FloatOps.absf (F := Ideal) (φ := .f32) a) (FloatOps.ofBits (F := Ideal) .f32 0x7F800000#32) = 1#1) :
    IsReal a := by
  have ht : FloatOps.ofBits (F := Ideal) .f32 0x7F800000#32 = (⊤ : EReal) := by
    show Ideal.ofBits .f32 0x7F800000#32 = ⊤
    simp [Ideal.ofBits, Ideal.ieee]
  have h' : max a (-a) < (⊤ : EReal) := by
    by_contra hn
    rw [ht] at h
    have h1 : BitVec.ofBool (decide (max a (-a) < (⊤ : EReal))) = 1#1 := h
    rw [decide_eq_false hn] at h1
    exact absurd h1 (by decide)
  refine isReal_of_ne (fun hb => ?_) (fun hb => ?_)
  · rw [hb, EReal.neg_bot, max_eq_right bot_le] at h'
    exact lt_irrefl _ h'
  · rw [hb, max_eq_left le_top] at h'
    exact lt_irrefl _ h'

/-- The layer's arguments are real under the precondition. -/
theorem isReal_arguments (m : (ℓ : Loc Cert.KernelIdeal.nD Cert.KernelIdeal.τ Cert.KernelIdeal.sig) → Buf (Elt Ideal) ℓ)
    (h : Cert.Pre_KernelIdeal_finite_weights m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  obtain ⟨h0, h3, h4, h5, h6⟩ := h c
  exact ⟨fun i => isReal_of_abs_lt _ (congrFun h0 i), fun i => isReal_of_abs_lt _ (congrFun h3 i),
    fun i => isReal_of_abs_lt _ (congrFun h4 i), fun i => isReal_of_abs_lt _ (congrFun h5 i),
    fun i => isReal_of_abs_lt _ (congrFun h6 i)⟩

/-- On equal arguments, of real hidden states and weights, the kernel's result is the reference's. -/
theorem results_eq (x : FVec Ideal Cert.KernelIdeal.S2x512x768 .f32) (s : FVec Ideal Cert.KernelIdeal.S768x16 .f32)
    (g : FVec Ideal Cert.KernelIdeal.S16 .f32) (q k v : FVec Ideal Cert.KernelIdeal.S16x768x64 .f32)
    (o : FVec Ideal Cert.KernelIdeal.S16x64x768 .f32) (hx : ∀ i, IsReal (x i)) (hq : ∀ i, IsReal (q i))
    (hk : ∀ i, IsReal (k i)) (hv : ∀ i, IsReal (v i)) (ho : ∀ i, IsReal (o i)) :
    Cert.ReferenceIdeal.Read.val_main_v110 (F := Ideal) x s g q k v o = kernelResult x s g q k v o := by
  funext i
  obtain ⟨b, t, c, rfl⟩ : ∃ (b : Fin 2) (t : Fin 512) (c : Fin 768), i = ix3 b t c := ⟨i 0, i 1, i 2, by
    funext a
    match a with
    | ⟨0, _⟩ => rfl
    | ⟨1, _⟩ => rfl
    | ⟨2, _⟩ => rfl⟩
  exact (r_result x s g q k v o b t c).trans (kernelResult_apply x s g q k v o hx hq hk hv ho b t c).symm

/-- From equal arguments under the precondition both idealized programs run, with one result and the arguments
    unchanged. -/
theorem algebraic : Cert.algebraic_KernelIdeal_ReferenceIdeal_pre_finite_weights := by
  intro m g m' g' hpre hargs
  refine ⟨_, kernel_run m g, (θ_run (Cert.ReferenceIdeal.defs (F := Ideal)) _ _).mono (fun r h c => ⟨?_, (h c).2⟩)
    (Cert.ReferenceIdeal.Value.run (F := Ideal) m' g')⟩
  refine (h c).1.trans ((Cert.ReferenceIdeal.Read.val_main_v110_eq (F := Ideal) (StableHlo.launchContents m' c)).trans ?_)
  obtain ⟨e0, e1, e2, e3, e4, e5, e6⟩ := hargs c
  obtain ⟨hx, hq, hk, hv, ho⟩ := isReal_arguments m hpre c
  repeat rw [StableHlo.launchContents_devRef]
  rw [e0, e1, e2, e3, e4, e5, e6]
  exact results_eq _ _ _ _ _ _ _ hx hq hk hv ho

/-- The certificate: the frames, the idealization's preserved text, and the two idealized results' equality. -/
theorem claim : Cert.Claim :=
  ⟨Cert.Kernel.Gen.facts, Cert.KernelIdeal.Gen.facts, Cert.ReferenceIdeal.Gen.facts, Cert.Pre_finite_weights.Gen.facts,
    fun m g _ => Cert.Kernel.Gen.frame m g, fun m g _ => Cert.KernelIdeal.Gen.frame m g,
    fun m g _ => Cert.KernelIdeal.Gen.frame m g, fun m g _ => frame_reference m g trivial, fun m g _ => frame_reference m g trivial,
    trivial, algebraic⟩

end Cert.Proof

end
